-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weighed_segments [hPre_weighed_segments : Cert.Pre_weighed_segments.Facts] (m : (ℓ : Loc Cert.KernelIdeal.nD Cert.KernelIdeal.τ Cert.KernelIdeal.sig) → Buf (Elt Ideal) ℓ) : Prop :=
  ∀ c : Dev Cert.KernelIdeal.nD,
    (Cert.Pre_weighed_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weighed_segments [hPre_weighed_segments : Cert.Pre_weighed_segments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weighed_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_weighed_segments [hKernelIdeal : Cert.KernelIdeal.Facts] [hPre_weighed_segments : Cert.Pre_weighed_segments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weighed_segments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_weighed_segments [hReferenceIdeal : Cert.ReferenceIdeal.Facts] [hPre_weighed_segments : Cert.Pre_weighed_segments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weighed_segments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_weighed_segments [hKernelIdeal : Cert.KernelIdeal.Facts] [hReferenceIdeal : Cert.ReferenceIdeal.Facts] [hPre_weighed_segments : Cert.Pre_weighed_segments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weighed_segments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_weighed_segments : Cert.Pre_weighed_segments.Facts),
    quiescent_Kernel (hKernel := hKernel)
    ∧ quiescent_KernelIdeal (hKernelIdeal := hKernelIdeal)
    ∧ quiescent_KernelIdeal_pre_weighed_segments (hKernelIdeal := hKernelIdeal) (hPre_weighed_segments := hPre_weighed_segments)
    ∧ quiescent_ReferenceIdeal (hReferenceIdeal := hReferenceIdeal)
    ∧ quiescent_ReferenceIdeal_pre_weighed_segments (hReferenceIdeal := hReferenceIdeal) (hPre_weighed_segments := hPre_weighed_segments)
    ∧ preserves_Kernel_KernelIdeal
    ∧ algebraic_KernelIdeal_ReferenceIdeal_pre_weighed_segments (hKernelIdeal := hKernelIdeal) (hReferenceIdeal := hReferenceIdeal) (hPre_weighed_segments := hPre_weighed_segments)
-- ==== Pre_weighed_segments.lean ====
abbrev S100000x128 : Shape := ⟨2, ![100000, 128]⟩
abbrev S1000 : Shape := ⟨1, ![1000]⟩
abbrev S128x16 : Shape := ⟨2, ![128, 16]⟩
abbrev S16 : Shape := ⟨1, ![16]⟩
abbrev S128x1 : Shape := ⟨2, ![128, 1]⟩
abbrev S1 : Shape := ⟨1, ![1]⟩
abbrev S100000x1 : Shape := ⟨2, ![100000, 1]⟩
abbrev S1x1 : Shape := ⟨2, ![1, 1]⟩
abbrev S_ : Shape := ⟨0, ![]⟩
abbrev S1000x100 : Shape := ⟨2, ![1000, 100]⟩

class Facts : Prop where
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  shapeCasts_S100000x1_S1000x100 : S100000x1.ShapeCasts S1000x100
  reducesTo_S1000x100_S1000_d1 : S1000x100.ReducesTo [1] S1000
  h_S_ : 0 < S_.numel
  bcast_S_S1000 : S_.BroadcastsInDim S1000 (![] : Fin 0 → Fin S1000.rank)
  dot_S100000x128_S128x1_S100000x1_1_0_0_1_n_n_wf : DotDims.WF S100000x128 S128x1 S100000x1 [1] [0] [0] [1] [] []

variable [Facts]

def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def fn {F : FTy → Type} [FloatOps F] (main_arg0 : FVec F S100000x128 .f32) (main_arg1 : IVec S1000 32) (main_arg2 : FVec F S128x16 .f32) (main_arg3 : FVec F S16 .f32) (main_arg4 : FVec F S128x1 .f32) (main_arg5 : FVec F S1 .f32) : IVec S1000 1 :=
  let main_v0 : FVec F S100000x1 .f32 := (fun l r => Host.dotGeneral dot_S100000x128_S128x1_S100000x1_1_0_0_1_n_n none l r) main_arg0 main_arg4
  let main_v1 : FVec F S1x1 .f32 := broadcastInDim S1x1 ![1] bcast_S1_S1x1_1 main_arg5
  let main_v2 : FVec F S100000x1 .f32 := broadcastInDim S100000x1 ![0, 1] bcast_S1x1_S100000x1_0_1 main_v1
  let main_v3 : FVec F S100000x1 .f32 := addf main_v0 main_v2
  let main_v4 : FVec F S100000x1 .f32 := Host.negf main_v3
  let main_v5 : FVec F S100000x1 .f32 := Host.exp main_v4
  let main_cst : FVec F S_ .f32 := constant S_ .f32 0x3F800000#32
  let main_v6 : FVec F S100000x1 .f32 := broadcastInDim S100000x1 ![] bcast_S_S100000x1 main_cst
  let main_v7 : FVec F S100000x1 .f32 := addf main_v6 main_v5
  let main_cst_0 : FVec F S_ .f32 := constant S_ .f32 0x3F800000#32
  let main_v8 : FVec F S100000x1 .f32 := broadcastInDim S100000x1 ![] bcast_S_S100000x1 main_cst_0
  let main_v9 : FVec F S100000x1 .f32 := Host.divf main_v8 main_v7
  let main_v10 : FVec F S1000x100 .f32 := shapeCast S1000x100 main_v9 shapeCasts_S100000x1_S1000x100
  let main_cst_1 : FVec F S_ .f32 := constant S_ .f32 0x00000000#32
  let main_v11 : FVec F S1000 .f32 := (fun x v => Host.reduceAdd x v reducesTo_S1000x100_S1000_d1 h_S_) main_v10 main_cst_1
  let main_c : IVec S_ 32 := constantI S_ 32 100#32
  let main_v12 : IVec S1000 32 := broadcastInDim S1000 ![] bcast_S_S1000 main_c
  let main_v13 : IVec S1000 1 := cmpi .eq main_arg1 main_v12
  let main_cst_2 : FVec F S_ .f32 := constant S_ .f32 0x00000000#32
  let main_v14 : FVec F S1000 .f32 := broadcastInDim S1000 ![] bcast_S_S1000 main_cst_2
  let main_v15 : IVec S1000 1 := cmpf .ogt main_v11 main_v14
  let main_v16 : IVec S1000 1 := andi main_v13 main_v15
  main_v16
-- ==== Kernel.lean ====
abbrev S100000x128 : Shape := ⟨2, ![100000, 128]⟩
abbrev S1000 : Shape := ⟨1, ![1000]⟩
abbrev S128x16 : Shape := ⟨2, ![128, 16]⟩
abbrev S16 : Shape := ⟨1, ![16]⟩
abbrev S128x1 : Shape := ⟨2, ![128, 1]⟩
abbrev S1 : Shape := ⟨1, ![1]⟩
abbrev S128x17 : Shape := ⟨2, ![128, 17]⟩
abbrev S17 : Shape := ⟨1, ![17]⟩
abbrev S1x17 : Shape := ⟨2, ![1, 17]⟩
abbrev S129x17 : Shape := ⟨2, ![129, 17]⟩
abbrev S5x200x16 : Shape := ⟨3, ![5, 200, 16]⟩
abbrev S10000x128 : Shape := ⟨2, ![10000, 128]⟩
abbrev S1x200x16 : Shape := ⟨3, ![1, 200, 16]⟩
abbrev S5000x50 : Shape := ⟨2, ![5000, 50]⟩
abbrev S17x1 : Shape := ⟨2, ![17, 1]⟩
abbrev S17x5000 : Shape := ⟨2, ![17, 5000]⟩
abbrev S5000x128 : Shape := ⟨2, ![5000, 128]⟩
abbrev S1x5000 : Shape := ⟨2, ![1, 5000]⟩
abbrev S17x50 : Shape := ⟨2, ![17, 50]⟩
abbrev S16x50 : Shape := ⟨2, ![16, 50]⟩
abbrev S1x50 : Shape := ⟨2, ![1, 50]⟩
abbrev S50x16 : Shape := ⟨2, ![50, 16]⟩
abbrev S1x50x16 : Shape := ⟨3, ![1, 50, 16]⟩
abbrev S1000x16 : Shape := ⟨2, ![1000, 16]⟩

abbrev nBuf : Space → Nat
  | .hbm => 12
  | .vmem => 7
  | .smem => 0
  | _ => 0

abbrev bufTy : (tb : Table) → Fin (tcTables nBuf tb) → BufTy
  | .hbm, ⟨0, _⟩ => ⟨S100000x128, .f32⟩
  | .hbm, ⟨1, _⟩ => ⟨S1000, .i32⟩
  | .hbm, ⟨2, _⟩ => ⟨S128x16, .f32⟩
  | .hbm, ⟨3, _⟩ => ⟨S16, .f32⟩
  | .hbm, ⟨4, _⟩ => ⟨S128x1, .f32⟩
  | .hbm, ⟨5, _⟩ => ⟨S1, .f32⟩
  | .hbm, ⟨6, _⟩ => ⟨S128x17, .f32⟩
  | .hbm, ⟨7, _⟩ => ⟨S17, .f32⟩
  | .hbm, ⟨8, _⟩ => ⟨S1x17, .f32⟩
  | .hbm, ⟨9, _⟩ => ⟨S129x17, .f32⟩
  | .hbm, ⟨10, _⟩ => ⟨S5x200x16, .f32⟩
  | .hbm, ⟨11, _⟩ => ⟨S1000x16, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S129x17, .f32⟩
  | .local _ .vmem, ⟨5, _⟩ => ⟨S1x200x16, .f32⟩
  | .local _ .vmem, ⟨6, _⟩ => ⟨S1x200x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S129x17 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x200x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S100000x128 : Shape := ⟨2, ![100000, 128]⟩
abbrev S1000 : Shape := ⟨1, ![1000]⟩
abbrev S128x16 : Shape := ⟨2, ![128, 16]⟩
abbrev S16 : Shape := ⟨1, ![16]⟩
abbrev S128x1 : Shape := ⟨2, ![128, 1]⟩
abbrev S1 : Shape := ⟨1, ![1]⟩
abbrev S999 : Shape := ⟨1, ![999]⟩
abbrev S_ : Shape := ⟨0, ![]⟩
abbrev S100000 : Shape := ⟨1, ![100000]⟩
abbrev S1000x1 : Shape := ⟨2, ![1000, 1]⟩
abbrev S100000x1 : Shape := ⟨2, ![100000, 1]⟩
abbrev S1x1 : Shape := ⟨2, ![1, 1]⟩
abbrev S100000x16 : Shape := ⟨2, ![100000, 16]⟩
abbrev S1x16 : Shape := ⟨2, ![1, 16]⟩
abbrev S1000x16 : Shape := ⟨2, ![1000, 16]⟩

abbrev nBuf : Space → Nat
  | .hbm => 105
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1000, .i32⟩
  | .hbm, ⟨2, _⟩ => ⟨S128x16, .f32⟩
  | .hbm, ⟨3, _⟩ => ⟨S16, .f32⟩
  | .hbm, ⟨4, _⟩ => ⟨S128x1, .f32⟩
  | .hbm, ⟨5, _⟩ => ⟨S1, .f32⟩
  | .hbm, ⟨6, _⟩ => ⟨S1000, .i32⟩
  | .hbm, ⟨7, _⟩ => ⟨S1, .i32⟩
  | .hbm, ⟨8, _⟩ => ⟨S999, .i32⟩
  | .hbm, ⟨9, _⟩ => ⟨S1000, .i32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1000, .i32⟩
  | .hbm, ⟨14, _⟩ => ⟨S_, .i32⟩
  | .hbm, ⟨15, _⟩ => ⟨S_, .i32⟩
  | .hbm, ⟨16, _⟩ => ⟨S1000, .i32⟩
  | .hbm, ⟨17, _⟩ => ⟨S_, .i32⟩
  | .hbm, ⟨18, _⟩ => ⟨S100000, .i32⟩
  | .hbm, ⟨19, _⟩ => ⟨S_, .i32⟩
  | .hbm, ⟨20, _⟩ => ⟨S1000, .i32⟩
  | .hbm, ⟨21, _⟩ => ⟨S1000, .i1⟩
  | .hbm, ⟨22, _⟩ => ⟨S_, .i32⟩
  | .hbm, ⟨23, _⟩ => ⟨S1000, .i32⟩
  | .hbm, ⟨24, _⟩ => ⟨S1000, .i32⟩
  | .hbm, ⟨25, _⟩ => ⟨S1000, .i32⟩
  | .hbm, ⟨26, _⟩ => ⟨S1000x1, .i32⟩
  | .hbm, ⟨27, _⟩ => ⟨S_, .i32⟩
  | .hbm, ⟨28, _⟩ => ⟨S1000, .i32⟩
  | .hbm, ⟨29, _⟩ => ⟨S100000, .i32⟩
  | .hbm, ⟨30, _⟩ => ⟨S_, .i32⟩
  | .hbm, ⟨31, _⟩ => ⟨S_, .i32⟩
  | .hbm, ⟨32, _⟩ => ⟨S100000, .i32⟩
  | .hbm, ⟨33, _⟩ => ⟨S_, .i32⟩
  | .hbm, ⟨34, _⟩ => ⟨S100000, .i32⟩
  | .hbm, ⟨35, _⟩ => ⟨S100000, .i32⟩
  | .hbm, ⟨36, _⟩ => ⟨S_, .i32⟩
  | .hbm, ⟨37, _⟩ => ⟨S100000, .i32⟩
  | .hbm, ⟨38, _⟩ => ⟨S100000, .i1⟩
  | .hbm, ⟨39, _⟩ => ⟨S_, .i32⟩
  | .hbm, ⟨40, _⟩ => ⟨S100000, .i32⟩
  | .hbm, ⟨41, _⟩ => ⟨S100000, .i32⟩
  | .hbm, ⟨42, _⟩ => ⟨S100000, .i32⟩
  | .hbm, ⟨43, _⟩ => ⟨S100000x1, .i32⟩
  | .hbm, ⟨44, _⟩ => ⟨S1, .i32⟩
  | .hbm, ⟨45, _⟩ => ⟨S_, .i32⟩
  | .hbm, ⟨46, _⟩ => ⟨S100000x1, .i32⟩
  | .hbm, ⟨47, _⟩ => ⟨S100000x1, .i1⟩
  | .hbm, ⟨48, _⟩ => ⟨S1x1, .i32⟩
  | .hbm, ⟨49, _⟩ => ⟨S100000x1, .i32⟩
  | .hbm, ⟨50, _⟩ => ⟨S100000x1, .i1⟩
  | .hbm, ⟨51, _⟩ => ⟨S100000x1, .i1⟩
  | .hbm, ⟨52, _⟩ => ⟨S_, .i1⟩
  | .hbm, ⟨53, _⟩ => ⟨S100000, .i1⟩
  | .hbm, ⟨54, _⟩ => ⟨S100000, .i32⟩
  | .hbm, ⟨55, _⟩ => ⟨S_, .i32⟩
  | .hbm, ⟨56, _⟩ => ⟨S100000, .i32⟩
  | .hbm, ⟨57, _⟩ => ⟨S100000, .i32⟩
  | .hbm, ⟨58, _⟩ => ⟨S100000x16, .f32⟩
  | .hbm, ⟨59, _⟩ => ⟨S1x16, .f32⟩
  | .hbm, ⟨60, _⟩ => ⟨S100000x16, .f32⟩
  | .hbm, ⟨61, _⟩ => ⟨S100000x16, .f32⟩
  | .hbm, ⟨62, _⟩ => ⟨S100000x16, .f32⟩
  | .hbm, ⟨63, _⟩ => ⟨S100000x16, .f32⟩
  | .hbm, ⟨64, _⟩ => ⟨S_, .f32⟩
  | .hbm, ⟨65, _⟩ => ⟨S100000x16, .f32⟩
  | .hbm, ⟨66, _⟩ => ⟨S100000x16, .f32⟩
  | .hbm, ⟨67, _⟩ => ⟨S_, .f32⟩
  | .hbm, ⟨68, _⟩ => ⟨S100000x16, .f32⟩
  | .hbm, ⟨69, _⟩ => ⟨S100000x16, .f32⟩
  | .hbm, ⟨70, _⟩ => ⟨S100000x16, .f32⟩
  | .hbm, ⟨71, _⟩ => ⟨S100000x1, .f32⟩
  | .hbm, ⟨72, _⟩ => ⟨S1x1, .f32⟩
  | .hbm, ⟨73, _⟩ => ⟨S100000x1, .f32⟩
  | .hbm, ⟨74, _⟩ => ⟨S100000x1, .f32⟩
  | .hbm, ⟨75, _⟩ => ⟨S100000x1, .f32⟩
  | .hbm, ⟨76, _⟩ => ⟨S100000x1, .f32⟩
  | .hbm, ⟨77, _⟩ => ⟨S_, .f32⟩
  | .hbm, ⟨78, _⟩ => ⟨S100000x1, .f32⟩
  | .hbm, ⟨79, _⟩ => ⟨S100000x1, .f32⟩
  | .hbm, ⟨80, _⟩ => ⟨S_, .f32⟩
  | .hbm, ⟨81, _⟩ => ⟨S100000x1, .f32⟩
  | .hbm, ⟨82, _⟩ => ⟨S100000x1, .f32⟩
  | .hbm, ⟨83, _⟩ => ⟨S100000, .f32⟩
  | .hbm, ⟨84, _⟩ => ⟨S_, .f32⟩
  | .hbm, ⟨85, _⟩ => ⟨S1000, .f32⟩
  | .hbm, ⟨86, _⟩ => ⟨S100000x1, .i32⟩
  | .hbm, ⟨87, _⟩ => ⟨S1000, .f32⟩
  | .hbm, ⟨88, _⟩ => ⟨S_, .i32⟩
  | .hbm, ⟨89, _⟩ => ⟨S100000, .i32⟩
  | .hbm, ⟨90, _⟩ => ⟨S100000, .i1⟩
  | .hbm, ⟨91, _⟩ => ⟨S_, .i32⟩
  | .hbm, ⟨92, _⟩ => ⟨S100000, .i32⟩
  | .hbm, ⟨93, _⟩ => ⟨S100000, .i32⟩
  | .hbm, ⟨94, _⟩ => ⟨S100000, .i32⟩
  | .hbm, ⟨95, _⟩ => ⟨S100000x1, .i32⟩
  | .hbm, ⟨96, _⟩ => ⟨S100000, .f32⟩
  | .hbm, ⟨97, _⟩ => ⟨S100000, .f32⟩
  | .hbm, ⟨98, _⟩ => ⟨S100000x1, .f32⟩
  | .hbm, ⟨99, _⟩ => ⟨S100000x16, .f32⟩
  | .hbm, ⟨100, _⟩ => ⟨S100000x16, .f32⟩
  | .hbm, ⟨101, _⟩ => ⟨S_, .f32⟩
  | .hbm, ⟨102, _⟩ => ⟨S1000x16, .f32⟩
  | .hbm, ⟨103, _⟩ => ⟨S100000x1, .i32⟩
  | .hbm, ⟨104, _⟩ => ⟨S1000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_call1_call0_c : Ref sig .tc := ⟨.hbm, 14, rfl⟩
abbrev main_call1_call0_v0 : Ref sig .tc := ⟨.hbm, 15, rfl⟩
abbrev main_v4 : Ref sig .tc := ⟨.hbm, 16, rfl⟩
abbrev main_c_1 : Ref sig .tc := ⟨.hbm, 17, rfl⟩
abbrev main_v5 : Ref sig .tc := ⟨.hbm, 18, rfl⟩
abbrev main_c_2 : Ref sig .tc := ⟨.hbm, 19, rfl⟩
abbrev main_v6 : Ref sig .tc := ⟨.hbm, 20, rfl⟩
abbrev main_v7 : Ref sig .tc := ⟨.hbm, 21, rfl⟩
abbrev main_c_3 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_4 : Ref sig .tc := ⟨.hbm, 27, rfl⟩
abbrev main_v12 : Ref sig .tc := ⟨.hbm, 28, rfl⟩
abbrev main_v13 : Ref sig .tc := ⟨.hbm, 29, rfl⟩
abbrev main_call2_call0_c : Ref sig .tc := ⟨.hbm, 30, rfl⟩
abbrev main_call2_call0_v0 : Ref sig .tc := ⟨.hbm, 31, rfl⟩
abbrev main_v14 : Ref sig .tc := ⟨.hbm, 32, rfl⟩
abbrev main_c_5 : Ref sig .tc := ⟨.hbm, 33, rfl⟩
abbrev main_v15 : Ref sig .tc := ⟨.hbm, 34, rfl⟩
abbrev main_v16 : Ref sig .tc := ⟨.hbm, 35, rfl⟩
abbrev main_call3_c : Ref sig .tc := ⟨.hbm, 36, rfl⟩
abbrev main_call3_v0 : Ref sig .tc := ⟨.hbm, 37, rfl⟩
abbrev main_call3_v1 : Ref sig .tc := ⟨.hbm, 38, rfl⟩
abbrev main_call3_c_0 : Ref sig .tc := ⟨.hbm, 39, rfl⟩
abbrev main_call3_v2 : Ref sig .tc := ⟨.hbm, 40, rfl⟩
abbrev main_call3_v3 : Ref sig .tc := ⟨.hbm, 41, rfl⟩
abbrev main_call3_v4 : Ref sig .tc := ⟨.hbm, 42, rfl⟩
abbrev main_call3_v5 : Ref sig .tc := ⟨.hbm, 43, rfl⟩
abbrev main_call3_c_1 : Ref sig .tc := ⟨.hbm, 44, rfl⟩
abbrev main_call3_c_2 : Ref sig .tc := ⟨.hbm, 45, rfl⟩
abbrev main_call3_v6 : Ref sig .tc := ⟨.hbm, 46, rfl⟩
abbrev main_call3_v7 : Ref sig .tc := ⟨.hbm, 47, rfl⟩
abbrev main_call3_v8 : Ref sig .tc := ⟨.hbm, 48, rfl⟩
abbrev main_call3_v9 : Ref sig .tc := ⟨.hbm, 49, rfl⟩
abbrev main_call3_v10 : Ref sig .tc := ⟨.hbm, 50, rfl⟩
abbrev main_call3_v11 : Ref sig .tc := ⟨.hbm, 51, rfl⟩
abbrev main_call3_c_3 : Ref sig .tc := ⟨.hbm, 52, rfl⟩
abbrev main_call3_v12 : Ref sig .tc := ⟨.hbm, 53, rfl⟩
abbrev main_call3_v13 : Ref sig .tc := ⟨.hbm, 54, rfl⟩
abbrev main_call3_c_4 : Ref sig .tc := ⟨.hbm, 55, rfl⟩
abbrev main_call3_v14 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_call4_v0 : Ref sig .tc := ⟨.hbm, 62, rfl⟩
abbrev main_call4_v1 : Ref sig .tc := ⟨.hbm, 63, rfl⟩
abbrev main_call4_cst : Ref sig .tc := ⟨.hbm, 64, rfl⟩
abbrev main_call4_v2 : Ref sig .tc := ⟨.hbm, 65, rfl⟩
abbrev main_call4_v3 : Ref sig .tc := ⟨.hbm, 66, rfl⟩
abbrev main_call4_cst_0 : Ref sig .tc := ⟨.hbm, 67, rfl⟩
abbrev main_call4_v4 : Ref sig .tc := ⟨.hbm, 68, rfl⟩
abbrev main_call4_v5 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_cst : Ref sig .tc := ⟨.hbm, 77, rfl⟩
abbrev main_v29 : Ref sig .tc := ⟨.hbm, 78, rfl⟩
abbrev main_v30 : Ref sig .tc := ⟨.hbm, 79, rfl⟩
abbrev main_cst_6 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_cst_7 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_c_8 : Ref sig .tc := ⟨.hbm, 88, rfl⟩
abbrev main_v37 : Ref sig .tc := ⟨.hbm, 89, rfl⟩
abbrev main_v38 : Ref sig .tc := ⟨.hbm, 90, rfl⟩
abbrev main_c_9 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_cst_10 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩

abbrev nD : Nat := 1
abbrev τ : Topo := Topo.v7x

variable {F : FTy → Type} [FloatOps F]
-- ==== Proof.Membership.lean ====
/- The kernel's membership matrix: entry `(r, s)` is one where row `r` of a chunk is in the chunk's structure `s`, which is
   where `r / 100 = s`, and zero elsewhere. -/
module

public import proofs.«01_k».proof.Proof.Gen.KernelIdeal.Skeleton
public import proofs.«01_k».proof.Proof.Gen.KernelIdeal
public import Idealize.ShloMosaic.PureOps.Ideal.Laws
public import Idealize.ShloMosaic.Lib.ValueIdx
public import Idealize.ShloMosaic.Lib.Routing.Words
public import Idealize.ShloMosaic.Lib.Routing.BitFacts

@[expose] public section

set_option maxRecDepth 16384

noncomputable section

namespace Cert.Membership

open Cert.KernelIdeal Cert.KernelIdeal.Gen Idealize.ShloMosaic Idealize.ShloMosaic.ValueIdx Idealize.ShloMosaic.Routing

/-- The sign of a word, as the difference of its two comparisons with zero. -/
def sign (x : BitVec 32) : BitVec 32 :=
  IntOp.subi ((IntOp.cmpi .sgt x 0#32).setWidth 32) ((IntOp.cmpi .slt x 0#32).setWidth 32)

/-- The floor of `x / 100` as it is spelled on words: the truncated quotient, less one where the signs differ and the
    remainder is not zero. -/
def quotient (x : BitVec 32) : BitVec 32 :=
  Scalar.select (IntOp.andi (IntOp.cmpi .ne (sign x) (sign 100#32)) (IntOp.cmpi .ne (IntOp.remsi .vector x 100#32) 0#32))
    (IntOp.subi (IntOp.divsi .vector x 100#32) 1#32) (IntOp.divsi .vector x 100#32)

/-- A positive word's sign is a hundred's. -/
theorem sign_pos {a : ℕ} (h0 : 0 < a) (ha : a < 2 ^ 31) : sign (BitVec.ofNat 32 a) = sign 100#32 := by
  have hp : IntOp.cmpi .sgt (BitVec.ofNat 32 a) 0#32 = 1#1 := by
    show BitVec.ofBool ((BitVec.ofNat 32 0).slt (BitVec.ofNat 32 a)) = 1#1
    rw [slt_ofNat32 (by decide) ha, decide_eq_true h0]; rfl
  have hn : IntOp.cmpi .slt (BitVec.ofNat 32 a) 0#32 = 0#1 := by
    show BitVec.ofBool ((BitVec.ofNat 32 a).slt (BitVec.ofNat 32 0)) = 0#1
    rw [slt_ofNat32 ha (by decide), decide_eq_false (Nat.not_lt_zero a)]; rfl
  unfold sign
  rw [hp, hn]
  decide

/-- On a word that is not negative the quotient is the natural one. -/
theorem quotient_word {a : ℕ} (ha : a < 2 ^ 31) : quotient (BitVec.ofNat 32 a) = BitVec.ofNat 32 (a / 100) := by
  have hd : IntOp.divsi .vector (BitVec.ofNat 32 a) 100#32 = BitVec.ofNat 32 (a / 100) := divsi_word .vector ha (by decide) (by decide)
  have hc : IntOp.andi (IntOp.cmpi .ne (sign (BitVec.ofNat 32 a)) (sign 100#32)) (IntOp.cmpi .ne (IntOp.remsi .vector (BitVec.ofNat 32 a) 100#32) 0#32) = 0#1 := by
    rcases Nat.eq_zero_or_pos a with rfl | h0
    · rw [show IntOp.remsi .vector (BitVec.ofNat 32 0) 100#32 = 0#32 from remsi_word .vector (by decide) (by decide) (by decide)]
      decide
    · rw [sign_pos h0 ha, show IntOp.cmpi .ne (sign 100#32) (sign 100#32) = 0#1 by decide]
      exact BitVec.zero_and
  unfold quotient
  rw [hc, hd]
  rfl

/-- The membership matrix at an entry, on words. -/
theorem members_word {F : FTy → Type} [FloatOps F] (r : Fin 5000) (s : Fin 50) :
    k0_pay1 (F := F) (ix2 r s) = FloatOps.truncf .bf16 bitsLt_bf16_f32
      (FloatOps.sitofp .f32 ((IntOp.cmpi .eq (quotient (BitVec.ofNat 32 r.val)) (BitVec.ofNat 32 s.val)).setWidth 32)) := by
  have h0 : iota .tc S5000x50 32 [0] iota_S5000x50_d0_w32 (ix2 r s) = BitVec.ofNat 32 r.val := iota_single_apply ..
  have h1 : iota .tc S5000x50 32 [1] iota_S5000x50_d1_w32 (ix2 r s) = BitVec.ofNat 32 s.val := iota_single_apply ..
  rw [← h0, ← h1]
  rfl

/-- The membership matrix at an entry. -/
theorem members (r : Fin 5000) (s : Fin 50) :
    k0_pay1 (F := Ideal) (ix2 r s) = if r.val / 100 = s.val then (1 : EReal) else 0 := by
  have hr := r.isLt
  have hs := s.isLt
  rw [members_word, quotient_word (by omega)]
  show ((((IntOp.cmpi .eq (BitVec.ofNat 32 (r.val / 100)) (BitVec.ofNat 32 s.val)).setWidth 32).toInt : ℝ) : EReal) = _
  rw [WordCmp.cmpi_eq_ofNat (by omega) (by omega)]
  by_cases h : r.val / 100 = s.val
  · rw [if_pos h, decide_eq_true h, show ((BitVec.ofBool true).setWidth 32).toInt = 1 by decide]
    norm_num
  · rw [if_neg h, decide_eq_false h, show ((BitVec.ofBool false).setWidth 32).toInt = 0 by decide]
    norm_num

end Cert.Membership
-- ==== Proof.Readout.lean ====
/- The segment-weighted readout in plain mathematics, over the extended reals: what both programs compute.

   An atom `r` has a vector of features and a weight: the features are `a * sigmoid a` of a linear layer, the weight the
   sigmoid of a second layer with one output. Structure `s` holds atoms `100 s … 100 s + 99`, and its readout is the mean
   of its atoms' features, weighed by their weights. `fractions_eq_quotient` is the equation between the two programs:
   the kernel divides the two sums, the reference divides each weight before it sums. -/
module

public import Idealize.ShloMosaic.PureOps.Ideal.Laws
public import Idealize.ShloMosaic.Lib.ValueIdx

@[expose] public section

noncomputable section

namespace Cert.Readout

open Idealize.ShloMosaic Idealize.ShloMosaic.ValueIdx
open scoped BigOperators

/-- An array of extended reals of the shape `s`. -/
abbrev Arr (s : Shape) : Type := s.Idx → EReal

/-- Output `h` of a linear layer with weights `W` and bias `b`, at row `r` of `X`. -/
def layer {n : ℕ} (X : Arr ⟨2, ![100000, 128]⟩) (W : Arr ⟨2, ![128, n]⟩) (b : Arr ⟨1, ![n]⟩) (r : Fin 100000) (h : Fin n) : EReal :=
  (∑ d : Fin 128, X (ix2 r d) * W (ix2 d h)) + b (ix1 h)

/-- Atom `r`'s weight: the sigmoid of its layer of one output. -/
def weight (X : Arr ⟨2, ![100000, 128]⟩) (W : Arr ⟨2, ![128, 1]⟩) (b : Arr ⟨1, ![1]⟩) (r : Fin 100000) : EReal :=
  Ideal.logistic (layer X W b r 0)

/-- Atom `r`'s feature `h`: the layer's output times its own sigmoid. -/
def feature (X : Arr ⟨2, ![100000, 128]⟩) (W : Arr ⟨2, ![128, 16]⟩) (b : Arr ⟨1, ![16]⟩) (r : Fin 100000) (h : Fin 16) : EReal :=
  layer X W b r h * Ideal.logistic (layer X W b r h)

/-- Atom `p` of structure `s`. -/
def atom (s : Fin 1000) (p : Fin 100) : Fin 100000 := ⟨100 * s.val + p.val, by omega⟩

/-- The total weight of structure `s`. -/
def total (X : Arr ⟨2, ![100000, 128]⟩) (W : Arr ⟨2, ![128, 1]⟩) (b : Arr ⟨1, ![1]⟩) (s : Fin 1000) : EReal :=
  ∑ p : Fin 100, weight X W b (atom s p)

/-- Feature `h` of structure `s`'s readout: the weighed sum of its atoms' features over the sum of their weights. -/
def readout (X : Arr ⟨2, ![100000, 128]⟩) (Wm : Arr ⟨2, ![128, 16]⟩) (bm : Arr ⟨1, ![16]⟩) (Ww : Arr ⟨2, ![128, 1]⟩)
    (bw : Arr ⟨1, ![1]⟩) (s : Fin 1000) (h : Fin 16) : EReal :=
  Ideal.div (∑ p : Fin 100, feature X Wm bm (atom s p) h * weight X Ww bw (atom s p)) (total X Ww bw s)

/-! ## Sums over a segment -/

/-- Of the `n * b` positions, those in block `s` of `b` consecutive ones: their terms' sum is the sum over the block. -/
theorem sum_block {n b : ℕ} (N : ℕ) (hN : N = n * b) (f : Fin N → EReal) (s : Fin n)
    (e : Fin b → Fin N) (he : ∀ p, (e p).val = b * s.val + p.val) :
    (∑ r : Fin N, if r.val / b = s.val then f r else 0) = ∑ p : Fin b, f (e p) := by
  subst hN
  rw [← Equiv.sum_comp finProdFinEquiv, Fintype.sum_prod_type]
  have hq : ∀ (x : Fin n) (y : Fin b), (finProdFinEquiv (x, y)).val / b = x.val := fun x y => by
    have hb : 0 < b := lt_of_le_of_lt (Nat.zero_le _) y.isLt
    rw [finProdFinEquiv_apply_val, Nat.add_mul_div_left _ _ hb, Nat.div_eq_of_lt y.isLt, Nat.zero_add]
  rw [Finset.sum_eq_single s]
  · refine Finset.sum_congr rfl fun p _ => ?_
    rw [hq, if_pos rfl]
    refine congrArg f (Fin.ext ?_)
    rw [he, finProdFinEquiv_apply_val]
    exact Nat.add_comm _ _
  · intro x _ hx
    refine Finset.sum_eq_zero fun y _ => ?_
    rw [hq, if_neg fun h => hx (Fin.ext h)]
  · exact fun h => absurd (Finset.mem_univ s) h

/-- A term times the number that is one where `P` holds and zero elsewhere is the term where `P` holds. -/
theorem mul_indicator (x : EReal) (P : Prop) [Decidable P] : x * (if P then 1 else 0) = if P then x else 0 := by
  split
  · exact mul_one x
  · exact mul_zero x

/-! ## The sigmoid's range -/

/-- A sigmoid is not negative. -/
theorem logistic_nonneg (x : EReal) : 0 ≤ Ideal.logistic x := by
  induction x using EReal.rec with
  | bot => rw [Ideal.logistic_bot]
  | top => rw [Ideal.logistic_top]; exact zero_le_one
  | coe r => rw [Ideal.logistic_coe]; exact_mod_cast by positivity

/-- A sigmoid is not infinite. -/
theorem logistic_ne_top (x : EReal) : Ideal.logistic x ≠ ⊤ := by
  induction x using EReal.rec with
  | bot => rw [Ideal.logistic_bot]; exact EReal.zero_ne_top
  | top => rw [Ideal.logistic_top]; exact EReal.coe_ne_top 1
  | coe r => rw [Ideal.logistic_coe]; exact EReal.coe_ne_top _

/-- The sigmoid of a finite number is positive: so finite inputs give every structure a positive total weight. -/
theorem logistic_pos (r : ℝ) : 0 < Ideal.logistic (r : EReal) := by
  rw [Ideal.logistic_coe]; exact_mod_cast by positivity

/-- A finite sum of terms that are not infinite from above is not either. -/
theorem sum_ne_top {ι : Type} (t : Finset ι) (w : ι → EReal) (h : ∀ i ∈ t, w i ≠ ⊤) : ∑ i ∈ t, w i ≠ ⊤ := by
  classical
  induction t using Finset.induction_on with
  | empty => rw [Finset.sum_empty]; exact EReal.zero_ne_top
  | insert a t ha ih =>
    rw [Finset.sum_insert ha]
    exact EReal.add_ne_top (h a (Finset.mem_insert_self a t)) (ih fun i hi => h i (Finset.mem_insert_of_mem hi))

/-- A constant that is neither negative nor infinite multiplies a sum term by term, the terms any extended reals. -/
theorem const_mul_sum {ι : Type} (t : Finset ι) (c : EReal) (h0 : 0 ≤ c) (ht : c ≠ ⊤) (f : ι → EReal) :
    c * ∑ i ∈ t, f i = ∑ i ∈ t, c * f i := by
  classical
  induction t using Finset.induction_on with
  | empty => rw [Finset.sum_empty, Finset.sum_empty, mul_zero]
  | insert a t ha ih =>
    rw [Finset.sum_insert ha, Finset.sum_insert ha, EReal.left_distrib_of_nonneg_of_ne_top h0 ht, ih]

/-! ## The equation -/

/-- The sum of features, each times its weight's share of the total, is the weighed sum over the total: for any features,
    infinite ones too, and weights that are neither negative nor infinite and do not all vanish. -/
theorem fractions_eq_quotient {n : ℕ} (w f : Fin n → EReal) (W : EReal) (hW : 0 < W) (ht : W ≠ ⊤) :
    (∑ p, Ideal.div (w p) W * f p) = Ideal.div (∑ p, f p * w p) W := by
  have hne : W ≠ 0 := hW.ne'
  have hi0 : 0 ≤ W⁻¹ := EReal.inv_nonneg_of_nonneg hW.le
  have hit : W⁻¹ ≠ ⊤ := by
    lift W to ℝ using ⟨ht, fun h => by rw [h] at hW; exact absurd hW (not_lt_bot)⟩
    rw [← EReal.coe_inv]
    exact EReal.coe_ne_top _
  unfold Ideal.div
  simp only [if_neg hne]
  rw [mul_comm, const_mul_sum _ _ hi0 hit]
  refine Finset.sum_congr rfl fun p _ => ?_
  rw [mul_comm (w p), mul_assoc, mul_comm (w p)]

end Cert.Readout

end
-- ==== Proof.Chunk.lean ====
/- What the kernel computes from one chunk of 5000 atoms, fifty structures: the four chunks of a block are one function, and
   at an index it is the quotient of the weighed sum of the structure's atoms' features by their weights' sum. -/
module

public import proofs.«01_k».proof.Proof.Membership
public import proofs.«01_k».proof.Proof.Gen.KernelIdeal.Frame
public import proofs.«01_k».proof.Proof.Readout
public import Idealize.ShloMosaic.Lib.IdealHost
public import Idealize.ShloMosaic.Lib.Pipeline.Value

@[expose] public section

set_option maxRecDepth 16384

noncomputable section

namespace Cert.Chunk

open Cert.KernelIdeal Cert.KernelIdeal.Gen Cert.Readout Idealize.ShloMosaic Idealize.ShloMosaic.ValueIdx
open scoped BigOperators

/-! ## The four chunks are one function -/

section AnyInstance
variable {F : FTy → Type} [FloatOps F]

/-- A chunk's result from the weights `w`, the bias row `b` and the chunk's atoms `x`. -/
def chunk (w : FVec F S128x17 .f32) (b : FVec F S1x17 .f32) (x : FVec F S5000x128 .f32) : FVec F S1x50x16 .f32 :=
  k0_pay13 k0_pay1 (k0_pay2 w) (k0_pay3 b) (iota .tc S17x5000 32 [0] iota_S17x5000_d0_w32) x

/-- The first block's first chunk. -/
theorem first_eq (w : FVec F S128x17 .f32) (b : FVec F S1x17 .f32) (x : FVec F S5000x128 .f32) :
    k0_pay8 k0_pay1 (k0_pay5 w b x) k0_pay6 (k0_pay7 w b x) = chunk w b x := rfl

/-- The first block's second chunk. -/
theorem second_eq (w : FVec F S128x17 .f32) (b : FVec F S1x17 .f32) (x : FVec F S5000x128 .f32) :
    k0_pay9 k0_pay1 (k0_pay2 w) (k0_pay3 b) (iota .tc S17x5000 32 [0] iota_S17x5000_d0_w32) x = chunk w b x := rfl

/-- The second block's first chunk. -/
theorem third_eq (w : FVec F S128x17 .f32) (b : FVec F S1x17 .f32) (x : FVec F S5000x128 .f32) :
    k0_pay12 k0_pay1 (iota .tc S17x5000 32 [0] iota_S17x5000_d0_w32) (k0_pay10 (k0_pay2 w) x) (k0_pay11 (k0_pay3 b)) = chunk w b x := rfl

/-! ## The chunk, taken apart -/

/-- The seventeen linear outputs of each atom, transposed. -/
def activation (w : FVec F S128x17 .f32) (b : FVec F S1x17 .f32) (x : FVec F S5000x128 .f32) : FVec F S17x5000 .f32 :=
  addf (matmul dot_S128x17_S5000x128_S17x5000_0_1_1_0_n_n none (k0_pay2 w) x (constant S17x5000 .f32 0x00000000#32))
    (broadcastTo S17x5000 (k0_pay3 b) broadcasts_S17x1_S17x5000)

/-- The rows summed per structure: sixteen features and a one, each times the atom's weight. -/
def weighed (a : FVec F S17x5000 .f32) : FVec F S17x5000 .f32 :=
  mulf (select (cmpi .slt (iota .tc S17x5000 32 [0] iota_S17x5000_d0_w32) (broadcast S17x5000 16#32)) (mulf a (logistic a))
      (broadcast S17x5000 (Scalar.ofBits .f32 0x3F800000#32)))
    (broadcastTo S17x5000 (extractStridedSlice S1x5000 ![16, 0] (logistic a) slices_S17x5000_o16_0_S1x5000) broadcasts_S1x5000_S17x5000)

/-- The sums per structure: sixteen numerators and the denominator. -/
def sums (z : FVec F S17x5000 .f32) : FVec F S17x50 .f32 :=
  matmul dot_S17x5000_S5000x50_S17x50_1_0_0_1_n_n none (truncf .bf16 z bitsLt_bf16_f32) (k0_pay1 (F := F)) (constant S17x50 .f32 0x00000000#32)

/-- The quotients, a row per structure. -/
def quotients (n : FVec F S17x50 .f32) : FVec F S1x50x16 .f32 :=
  shapeCast S1x50x16 (transpose S50x16 [1, 0]
    (divf (extractStridedSlice S16x50 ![0, 0] n slices_S17x50_o0_0_S16x50)
      (broadcastTo S16x50 (extractStridedSlice S1x50 ![16, 0] n slices_S17x50_o16_0_S1x50) broadcasts_S1x50_S16x50))
    transposes_S16x50_p1_0_S50x16) shapeCasts_S50x16_S1x50x16

/-- The chunk is these four in turn. -/
theorem chunk_eq (w : FVec F S128x17 .f32) (b : FVec F S1x17 .f32) (x : FVec F S5000x128 .f32) :
    chunk w b x = quotients (sums (weighed (activation w b x))) := rfl

/-- The quotients at an index. -/
theorem quotients_apply (n : FVec F S17x50 .f32) (u : Fin 1) (s : Fin 50) (h : Fin 16) :
    quotients n (ix3 u s h) = FloatOps.divf (n (ix2 (h.castLE (by decide)) s)) (n (ix2 (16 : Fin 17) s)) := by
  unfold quotients
  refine (shapeCast_apply _ _ (ix3 u s h) (ix2 s h) ?_).trans ?_
  · rw [Shape.rowMajor_val_two, Shape.rowMajor_val_three]
    show s.val * 16 + h.val = (u.val * 50 + s.val) * 16 + h.val
    omega
  refine (transpose_apply _ _ _ (ix2 s h) (ix2 h s) fun a => match a with
    | ⟨0, _⟩ => rfl
    | ⟨1, _⟩ => rfl).trans ?_
  refine congrArg₂ FloatOps.divf ?_ ?_
  · exact extractStridedSlice_apply _ _ _ (ix2 h s) (ix2 (h.castLE (by decide)) s) fun a => match a with
      | ⟨0, _⟩ => (Nat.zero_add _).symm
      | ⟨1, _⟩ => (Nat.zero_add _).symm
  · refine (broadcastTo_apply _ _ (ix2 h s) (ix2 (0 : Fin 1) s) fun a => match a with
      | ⟨0, _⟩ => rfl
      | ⟨1, _⟩ => rfl).trans ?_
    exact extractStridedSlice_apply _ _ _ (ix2 (0 : Fin 1) s) (ix2 (16 : Fin 17) s) fun a => match a with
      | ⟨0, _⟩ => rfl
      | ⟨1, _⟩ => (Nat.zero_add _).symm

/-- A row at or past the sixteenth is told apart by its word. -/
theorem row_lt (h : Fin 17) : IntOp.cmpi .slt (BitVec.ofNat 32 h.val) 16#32 = BitVec.ofBool (decide (h.val < 16)) := by
  revert h
  decide

/-- The weighed rows at an index. -/
theorem weighed_apply (a : FVec F S17x5000 .f32) (h : Fin 17) (r : Fin 5000) :
    weighed a (ix2 h r)
      = FloatOps.mulf (if h.val < 16 then FloatOps.mulf (a (ix2 h r)) (FloatOps.logistic (a (ix2 h r))) else FloatOps.ofBits .f32 0x3F800000#32)
          (FloatOps.logistic (a (ix2 (16 : Fin 17) r))) := by
  unfold weighed
  refine congrArg₂ FloatOps.mulf ?_ ?_
  · show Scalar.select (IntOp.cmpi .slt (iota .tc S17x5000 32 [0] iota_S17x5000_d0_w32 (ix2 h r)) 16#32) _ _ = _
    rw [iota_single_apply, show ((ix2 h r : S17x5000.Idx) 0).val = h.val from rfl, row_lt, WordCmp.select_ofBool]
    by_cases hh : h.val < 16
    · rw [decide_eq_true hh, if_pos rfl, if_pos hh]; rfl
    · rw [decide_eq_false hh, if_neg Bool.false_ne_true, if_neg hh]; rfl
  · refine (broadcastTo_apply _ _ (ix2 h r) (ix2 (0 : Fin 1) r) fun a => match a with
      | ⟨0, _⟩ => rfl
      | ⟨1, _⟩ => rfl).trans ?_
    exact extractStridedSlice_apply _ _ _ (ix2 (0 : Fin 1) r) (ix2 (16 : Fin 17) r) fun a => match a with
      | ⟨0, _⟩ => rfl
      | ⟨1, _⟩ => (Nat.zero_add _).symm

/-- The bias, turned into a column. -/
theorem bias_apply (b : FVec F S1x17 .f32) (h : Fin 17) : k0_pay3 b (ix2 h (0 : Fin 1)) = b (ix2 (0 : Fin 1) h) := by
  unfold k0_pay3
  refine (transpose_apply _ _ _ (ix2 h (0 : Fin 1)) (ix2 (0 : Fin 1) h) fun a => match a with
    | ⟨0, _⟩ => rfl
    | ⟨1, _⟩ => rfl).trans ?_
  exact shapeCast_apply _ _ _ _ rfl

/-- The weights, cast to their own shape. -/
theorem weights_apply (w : FVec F S128x17 .f32) (i : S128x17.Idx) : k0_pay2 w i = w i := by
  unfold k0_pay2
  exact shapeCast_apply _ _ _ _ rfl

end AnyInstance

/-! ## The two products at an index -/

/-- The outputs' product reads the weights at the output's row. -/
theorem outputs_lhs (i : S17x5000.Idx) (q : dot_S128x17_S5000x128_S17x5000_0_1_1_0_n_n.contr.Idx) : (dot_S128x17_S5000x128_S17x5000_0_1_1_0_n_n.lhsIdx i q 1).val = (i 0).val := by
  unfold DotDims.lhsIdx
  rw [dif_neg (show ¬(1 : Fin S128x17.rank) ∈ dot_S128x17_S5000x128_S17x5000_0_1_1_0_n_n.lhsBatch by decide),
    dif_pos (show (1 : Fin S128x17.rank) ∈ dot_S128x17_S5000x128_S17x5000_0_1_1_0_n_n.lhsNonContracting by decide)]
  rfl

/-- The outputs' product reads the atoms at the output's column. -/
theorem outputs_rhs (i : S17x5000.Idx) (q : dot_S128x17_S5000x128_S17x5000_0_1_1_0_n_n.contr.Idx) : (dot_S128x17_S5000x128_S17x5000_0_1_1_0_n_n.rhsIdx i q 0).val = (i 1).val := by
  unfold DotDims.rhsIdx
  rw [dif_neg (show ¬(0 : Fin S5000x128.rank) ∈ dot_S128x17_S5000x128_S17x5000_0_1_1_0_n_n.rhsBatch by decide),
    dif_pos (show (0 : Fin S5000x128.rank) ∈ dot_S128x17_S5000x128_S17x5000_0_1_1_0_n_n.rhsNonContracting by decide)]
  rfl

/-- The sums' product reads the rows at the sum's row. -/
theorem sums_lhs (i : S17x50.Idx) (q : dot_S17x5000_S5000x50_S17x50_1_0_0_1_n_n.contr.Idx) : (dot_S17x5000_S5000x50_S17x50_1_0_0_1_n_n.lhsIdx i q 0).val = (i 0).val := by
  unfold DotDims.lhsIdx
  rw [dif_neg (show ¬(0 : Fin S17x5000.rank) ∈ dot_S17x5000_S5000x50_S17x50_1_0_0_1_n_n.lhsBatch by decide),
    dif_pos (show (0 : Fin S17x5000.rank) ∈ dot_S17x5000_S5000x50_S17x50_1_0_0_1_n_n.lhsNonContracting by decide)]
  rfl

/-- The sums' product reads the membership at the sum's column. -/
theorem sums_rhs (i : S17x50.Idx) (q : dot_S17x5000_S5000x50_S17x50_1_0_0_1_n_n.contr.Idx) : (dot_S17x5000_S5000x50_S17x50_1_0_0_1_n_n.rhsIdx i q 1).val = (i 1).val := by
  unfold DotDims.rhsIdx
  rw [dif_neg (show ¬(1 : Fin S5000x50.rank) ∈ dot_S17x5000_S5000x50_S17x50_1_0_0_1_n_n.rhsBatch by decide),
    dif_pos (show (1 : Fin S5000x50.rank) ∈ dot_S17x5000_S5000x50_S17x50_1_0_0_1_n_n.rhsNonContracting by decide)]
  rfl

/-- The linear outputs at an index. -/
theorem activation_apply (w : FVec Ideal S128x17 .f32) (b : FVec Ideal S1x17 .f32) (x : FVec Ideal S5000x128 .f32) (h : Fin 17) (r : Fin 5000) :
    activation w b x (ix2 h r) = (∑ d : Fin 128, x (ix2 r d) * w (ix2 d h)) + b (ix2 (0 : Fin 1) h) := by
  unfold activation
  refine congrArg₂ (fun p q : EReal => p + q) ?_ ?_
  · refine (Ideal.matmul_constant_zero_apply _ none _ _ _).trans ?_
    rw [← Equiv.sum_comp (contrEquiv1 dot_S128x17_S5000x128_S17x5000_0_1_1_0_n_n 128 rfl rfl).symm]
    refine Finset.sum_congr rfl fun d _ => ?_
    have hd := contrEquiv1_symm_val dot_S128x17_S5000x128_S17x5000_0_1_1_0_n_n 128 rfl rfl d
    have el : dot_S128x17_S5000x128_S17x5000_0_1_1_0_n_n.lhsIdx (ix2 h r)
        ((contrEquiv1 dot_S128x17_S5000x128_S17x5000_0_1_1_0_n_n 128 rfl rfl).symm d) = ix2 d h := funext fun a => Fin.ext (by
      match a with
      | ⟨0, _⟩ => exact (dot_S128x17_S5000x128_S17x5000_0_1_1_0_n_n.lhsIdx_val_of_single rfl _ _).trans hd
      | ⟨1, _⟩ => exact outputs_lhs _ _)
    have er : dot_S128x17_S5000x128_S17x5000_0_1_1_0_n_n.rhsIdx (ix2 h r)
        ((contrEquiv1 dot_S128x17_S5000x128_S17x5000_0_1_1_0_n_n 128 rfl rfl).symm d) = ix2 r d := funext fun a => Fin.ext (by
      match a with
      | ⟨0, _⟩ => exact outputs_rhs _ _
      | ⟨1, _⟩ => exact (dot_S128x17_S5000x128_S17x5000_0_1_1_0_n_n.rhsIdx_val_of_single rfl _ _).trans hd)
    rw [el, er, weights_apply]
    exact mul_comm _ _
  · refine (broadcastTo_apply _ _ (ix2 h r) (ix2 h (0 : Fin 1)) fun a => match a with
      | ⟨0, _⟩ => rfl
      | ⟨1, _⟩ => rfl).trans ?_
    exact bias_apply b h

/-- The sums per structure at an index: over the structure's hundred atoms. -/
theorem sums_apply (z : FVec Ideal S17x5000 .f32) (h : Fin 17) (s : Fin 50) (e : Fin 100 → Fin 5000) (he : ∀ p, (e p).val = 100 * s.val + p.val) :
    sums z (ix2 h s) = ∑ p : Fin 100, z (ix2 h (e p)) := by
  unfold sums
  refine (Ideal.matmul_constant_zero_apply _ none _ _ _).trans ?_
  rw [← Equiv.sum_comp (contrEquiv1 dot_S17x5000_S5000x50_S17x50_1_0_0_1_n_n 5000 rfl rfl).symm]
  refine Eq.trans (Finset.sum_congr rfl fun r _ => ?_) (sum_block 5000 rfl (fun r => z (ix2 h r)) s e he)
  have hr := contrEquiv1_symm_val dot_S17x5000_S5000x50_S17x50_1_0_0_1_n_n 5000 rfl rfl r
  have el : dot_S17x5000_S5000x50_S17x50_1_0_0_1_n_n.lhsIdx (ix2 h s)
      ((contrEquiv1 dot_S17x5000_S5000x50_S17x50_1_0_0_1_n_n 5000 rfl rfl).symm r) = ix2 h r := funext fun a => Fin.ext (by
    match a with
    | ⟨0, _⟩ => exact sums_lhs _ _
    | ⟨1, _⟩ => exact (dot_S17x5000_S5000x50_S17x50_1_0_0_1_n_n.lhsIdx_val_of_single rfl _ _).trans hr)
  have er : dot_S17x5000_S5000x50_S17x50_1_0_0_1_n_n.rhsIdx (ix2 h s)
      ((contrEquiv1 dot_S17x5000_S5000x50_S17x50_1_0_0_1_n_n 5000 rfl rfl).symm r) = ix2 r s := funext fun a => Fin.ext (by
    match a with
    | ⟨0, _⟩ => exact (dot_S17x5000_S5000x50_S17x50_1_0_0_1_n_n.rhsIdx_val_of_single rfl _ _).trans hr
    | ⟨1, _⟩ => exact sums_rhs _ _)
  rw [el, er, Cert.Membership.members]
  exact mul_indicator _ _

/-- Output `h` of the joined linear layer, at a chunk's atom `r`. -/
def joined (w : FVec Ideal S128x17 .f32) (b : FVec Ideal S1x17 .f32) (x : FVec Ideal S5000x128 .f32) (r : Fin 5000) (h : Fin 17) : EReal :=
  (∑ d : Fin 128, x (ix2 r d) * w (ix2 d h)) + b (ix2 (0 : Fin 1) h)

/-- The chunk at an index: structure `s`'s weighed sum of feature `h` over its weights' sum. -/
theorem chunk_apply (w : FVec Ideal S128x17 .f32) (b : FVec Ideal S1x17 .f32) (x : FVec Ideal S5000x128 .f32) (u : Fin 1) (s : Fin 50)
    (h : Fin 16) (e : Fin 100 → Fin 5000) (he : ∀ p, (e p).val = 100 * s.val + p.val) :
    chunk w b x (ix3 u s h)
      = Ideal.div (∑ p : Fin 100, joined w b x (e p) (h.castLE (by decide)) * Ideal.logistic (joined w b x (e p) (h.castLE (by decide)))
            * Ideal.logistic (joined w b x (e p) 16))
          (∑ p : Fin 100, Ideal.logistic (joined w b x (e p) 16)) := by
  rw [chunk_eq, quotients_apply, sums_apply _ _ s e he, sums_apply _ _ s e he]
  have hn : ∀ p, weighed (activation w b x) (ix2 (h.castLE (by decide) : Fin 17) (e p))
      = joined w b x (e p) (h.castLE (by decide)) * Ideal.logistic (joined w b x (e p) (h.castLE (by decide)))
          * Ideal.logistic (joined w b x (e p) 16) := fun p => by
    rw [weighed_apply, activation_apply, activation_apply, if_pos (show (h.castLE _ : Fin 17).val < 16 from h.isLt)]
    rfl
  have hw : ∀ p, weighed (activation w b x) (ix2 (16 : Fin 17) (e p)) = Ideal.logistic (joined w b x (e p) 16) := fun p => by
    rw [weighed_apply, activation_apply, if_neg (show ¬ (16 : Fin 17).val < 16 by decide), Ideal.ofBits_def, Ideal.ofBits_one_f32]
    exact one_mul _
  simp only [hn, hw]
  rfl

end Cert.Chunk
-- ==== Proof.Joined.lean ====
/- The one array the kernel makes of its two linear layers before its grid runs: the weights side by side, seventeen columns,
   and under them the biases as row 128. -/
module

public import proofs.«01_k».proof.Proof.Gen.KernelIdeal.Frame
public import proofs.«01_k».proof.Proof.Readout
public import Idealize.ShloMosaic.Lib.Pipeline.Value

@[expose] public section

set_option maxRecDepth 16384

noncomputable section

namespace Cert.Joined

open Cert.KernelIdeal Cert.KernelIdeal.Gen Cert.Readout Idealize.ShloMosaic Idealize.ShloMosaic.TcCoe Idealize.ShloMosaic.ValueIdx

variable {F : FTy → Type} [FloatOps F]

/-- The two layers' weights, side by side. -/
def weights (Wm : FVec F S128x16 .f32) (Ww : FVec F S128x1 .f32) : FVec F S128x17 .f32 :=
  concatenate S128x17 1 [⟨S128x16, Wm⟩, ⟨S128x1, Ww⟩] concatenates_S128x16_S128x1_S128x17_d1

/-- The two layers' biases, side by side. -/
def biases (bm : FVec F S16 .f32) (bw : FVec F S1 .f32) : FVec F S17 .f32 :=
  concatenate S17 0 [⟨S16, bm⟩, ⟨S1, bw⟩] concatenates_S16_S1_S17_d0

/-- The weights over the biases. -/
def both (Wm : FVec F S128x16 .f32) (bm : FVec F S16 .f32) (Ww : FVec F S128x1 .f32) (bw : FVec F S1 .f32) : FVec F S129x17 .f32 :=
  concatenate S129x17 0 [⟨S128x17, weights Wm Ww⟩, ⟨S1x17, broadcastInDim S1x17 ![1] bcast_S17_S1x17_1 (biases bm bw)⟩]
    concatenates_S128x17_S1x17_S129x17_d0

/-- The grid finds that array in the kernel's third operand. -/
theorem entry (m : (ℓ : Loc nD τ sig) → Buf (Elt F) ℓ) (c : Dev nD) :
    V m c main_v3 = both (m ((c : Thread nD τ).loc main_arg2)) (m ((c : Thread nD τ).loc main_arg3))
      (m ((c : Thread nD τ).loc main_arg4)) (m ((c : Thread nD τ).loc main_arg5)) := by
  show StableHlo.after (List.flatten [hostOps0]) (fun b => m (c, b)) (Proc.devRef .tc main_v3) = _
  rw [List.flatten_cons, List.flatten_nil, List.append_nil]
  after_results
  rfl

section
variable (Wm : FVec F S128x16 .f32) (bm : FVec F S16 .f32) (Ww : FVec F S128x1 .f32) (bw : FVec F S1 .f32)

/-- A row below 128 is a row of weights. -/
theorem both_upper (r : Fin 129) (d : Fin 128) (hr : r.val = d.val) (h : Fin 17) : both Wm bm Ww bw (ix2 r h) = weights Wm Ww (ix2 d h) :=
  concatenate_pair_apply_left (s₁ := S128x17) (s₂ := S1x17) 0 _ _ _ (ix2 r h) rfl (ix2 d h) fun b => by
    match b with
    | ⟨0, _⟩ => exact hr.symm
    | ⟨1, _⟩ => rfl

/-- Row 128 is the row of biases. -/
theorem both_lower (r : Fin 129) (hr : r.val = 128) (h : Fin 17) : both Wm bm Ww bw (ix2 r h) = biases bm bw (ix1 h) := by
  refine (concatenate_pair_apply_right (s₁ := S128x17) (s₂ := S1x17) 0 _ _ _ (ix2 r h) rfl rfl (ix2 (0 : Fin 1) h)
    (fun b hb => ?_) ?_).trans ?_
  · match b with
    | ⟨0, _⟩ => exact absurd rfl hb
    | ⟨1, _⟩ => rfl
  · show 0 + 128 = r.val
    omega
  · refine congrArg (biases bm bw) (funext fun a => Fin.ext ?_)
    match a with
    | ⟨0, _⟩ => rfl

/-- The first sixteen columns of weights are the features' layer's. -/
theorem weights_left (d : Fin 128) (j : Fin 17) (h : Fin 16) (hj : j.val = h.val) : weights Wm Ww (ix2 d j) = Wm (ix2 d h) :=
  concatenate_pair_apply_left (s₁ := S128x16) (s₂ := S128x1) 1 _ _ _ (ix2 d j) rfl (ix2 d h) fun b => by
    match b with
    | ⟨0, _⟩ => rfl
    | ⟨1, _⟩ => exact hj.symm

/-- The last column of weights is the weight's layer's. -/
theorem weights_right (d : Fin 128) : weights Wm Ww (ix2 d (16 : Fin 17)) = Ww (ix2 d (0 : Fin 1)) :=
  concatenate_pair_apply_right (s₁ := S128x16) (s₂ := S128x1) 1 _ _ _ (ix2 d (16 : Fin 17)) rfl rfl (ix2 d (0 : Fin 1))
    (fun b hb => by
      match b with
      | ⟨0, _⟩ => rfl
      | ⟨1, _⟩ => exact absurd rfl hb) rfl

/-- The first sixteen biases are the features' layer's. -/
theorem biases_left (j : Fin 17) (h : Fin 16) (hj : j.val = h.val) : biases bm bw (ix1 j) = bm (ix1 h) :=
  concatenate_pair_apply_left (s₁ := S16) (s₂ := S1) 0 _ _ _ (ix1 j) rfl (ix1 h) fun b => by
    match b with
    | ⟨0, _⟩ => exact hj.symm

/-- The last bias is the weight's layer's. -/
theorem biases_right : biases bm bw (ix1 (16 : Fin 17)) = bw (ix1 (0 : Fin 1)) :=
  concatenate_pair_apply_right (s₁ := S16) (s₂ := S1) 0 _ _ _ (ix1 (16 : Fin 17)) rfl rfl (ix1 (0 : Fin 1))
    (fun b hb => by
      match b with
      | ⟨0, _⟩ => exact absurd rfl hb) rfl

end

end Cert.Joined
-- ==== Proof.Block.lean ====
/- One grid step: from two blocks of 10000 atoms and the joined layers, the kernel's body leaves in its output block the
   readouts of the step's two hundred structures. -/
module

public import proofs.«01_k».proof.Proof.Chunk
public import proofs.«01_k».proof.Proof.Joined
public import Idealize.ShloMosaic.Lib.Pipeline.ValueKit.Tiles

@[expose] public section

set_option maxRecDepth 16384

noncomputable section

namespace Cert.Block

open Cert.KernelIdeal Cert.KernelIdeal.Gen Cert.Readout Cert.Chunk Cert.Joined Idealize.ShloMosaic Idealize.ShloMosaic.ValueIdx
open scoped BigOperators

variable (X : Arr ⟨2, ![100000, 128]⟩) (Wm : FVec Ideal S128x16 .f32) (bm : FVec Ideal S16 .f32) (Ww : FVec Ideal S128x1 .f32)
  (bw : FVec Ideal S1 .f32)

/-- What the body loads through the rectangle `r` of a block `x`. -/
abbrev loaded {s : Shape} (x : FVec Ideal s .f32) (r : Rect s) : FVec Ideal r.shape .f32 := View.ld (Val := Elt Ideal) (e' := .f32) x r

/-- The weights the body loads. -/
theorem load_weights (d : Fin 128) (h : Fin 17) : loaded (both Wm bm Ww bw) r0_0 (ix2 d h) = weights Wm Ww (ix2 d h) :=
  (View.ld_unit_apply_of (Val := Elt Ideal) (e := .f32) _ _ _ _ _ (ix2 (d.castLE (by decide) : Fin 129) h) fun a => by
    match a with
    | ⟨0, _⟩ => exact (Nat.zero_add _).symm
    | ⟨1, _⟩ => exact (Nat.zero_add _).symm).trans (both_upper Wm bm Ww bw _ d rfl h)

/-- The row of biases the body loads. -/
theorem load_biases (h : Fin 17) : loaded (both Wm bm Ww bw) r0_1 (ix2 (0 : Fin 1) h) = biases bm bw (ix1 h) :=
  (View.ld_unit_apply_of (Val := Elt Ideal) (e := .f32) _ _ _ _ _ (ix2 (128 : Fin 129) h) fun a => by
    match a with
    | ⟨0, _⟩ => rfl
    | ⟨1, _⟩ => exact (Nat.zero_add _).symm).trans (both_lower Wm bm Ww bw _ rfl h)

section Chunk
variable (x : FVec Ideal S5000x128 .f32) (q : Fin 20) (hx : ∀ (r : Fin 5000) (d : Fin 128), x (ix2 r d) = X (ix2 (⟨5000 * q.val + r.val, by omega⟩ : Fin 100000) d))
include hx

/-- The joined layer's outputs at a chunk's atom are the features' layer's -/
theorem joined_feature (r : Fin 5000) (i : Fin 100000) (hi : i.val = 5000 * q.val + r.val) (h : Fin 16) :
    joined (loaded (both Wm bm Ww bw) r0_0) (loaded (both Wm bm Ww bw) r0_1) x r (h.castLE (by decide)) = layer X Wm bm i h := by
  have hi' : (⟨5000 * q.val + r.val, by omega⟩ : Fin 100000) = i := Fin.ext hi.symm
  unfold joined layer
  rw [load_biases, biases_left bm bw _ h rfl]
  simp only [load_weights, hx, hi', weights_left Wm Ww _ (h.castLE (by decide)) h rfl]

/-- and, the last one, the weight's. -/
theorem joined_weight (r : Fin 5000) (i : Fin 100000) (hi : i.val = 5000 * q.val + r.val) :
    joined (loaded (both Wm bm Ww bw) r0_0) (loaded (both Wm bm Ww bw) r0_1) x r 16 = layer X Ww bw i 0 := by
  have hi' : (⟨5000 * q.val + r.val, by omega⟩ : Fin 100000) = i := Fin.ext hi.symm
  unfold joined layer
  rw [load_biases, biases_right]
  simp only [load_weights, hx, hi', weights_right]

/-- Chunk `q` of the atoms: structure `s` of its fifty has its readout. -/
theorem chunk_readout (u : Fin 1) (s : Fin 50) (h : Fin 16) (g : Fin 1000) (hg : g.val = 50 * q.val + s.val) :
    chunk (loaded (both Wm bm Ww bw) r0_0) (loaded (both Wm bm Ww bw) r0_1) x (ix3 u s h) = readout X Wm bm Ww bw g h := by
  rw [chunk_apply _ _ x u s h (fun p => ⟨100 * s.val + p.val, by omega⟩) (fun _ => rfl)]
  have hi : ∀ p : Fin 100, (atom g p).val = 5000 * q.val + (100 * s.val + p.val) := fun p => by
    show 100 * g.val + p.val = _
    omega
  have hf : ∀ p : Fin 100, _ = layer X Wm bm (atom g p) h :=
    fun p => joined_feature X Wm bm Ww bw x q hx ⟨100 * s.val + p.val, by omega⟩ (atom g p) (hi p) h
  have hw : ∀ p : Fin 100, _ = layer X Ww bw (atom g p) 0 :=
    fun p => joined_weight X Wm bm Ww bw x q hx ⟨100 * s.val + p.val, by omega⟩ (atom g p) (hi p)
  simp only [hf, hw]
  rfl

end Chunk

variable (t : Fin 5)

/-- Structure `s` of a step's two hundred is structure `200 t + s` of all. -/
def global (s : Fin 200) : Fin 1000 := ⟨200 * t.val + s.val, by omega⟩

/-- The upper half of a block of atoms. -/
theorem load_upper (x : FVec Ideal S10000x128 .f32) (r : Fin 5000) (d : Fin 128) :
    loaded x r0_2 (ix2 r d) = x (ix2 (⟨r.val, by omega⟩ : Fin 10000) d) :=
  View.ld_unit_apply_of (Val := Elt Ideal) (e := .f32) _ _ _ _ _ _ fun a => by
    match a with
    | ⟨0, _⟩ => exact (Nat.zero_add _).symm
    | ⟨1, _⟩ => exact (Nat.zero_add _).symm

/-- The lower half of a block of atoms. -/
theorem load_lower (x : FVec Ideal S10000x128 .f32) (r : Fin 5000) (d : Fin 128) :
    loaded x r0_4 (ix2 r d) = x (ix2 (⟨5000 + r.val, by omega⟩ : Fin 10000) d) :=
  View.ld_unit_apply_of (Val := Elt Ideal) (e := .f32) _ _ _ _ _ _ fun a => by
    match a with
    | ⟨0, _⟩ => rfl
    | ⟨1, _⟩ => exact (Nat.zero_add _).symm

/-- What the output block is to hold: at row `s` and column `h`, feature `h` of the step's structure `s`. -/
def target (i : S1x200x16.Idx) : EReal := readout X Wm bm Ww bw (global t (i 1)) (i 2)

/-- A chunk stored from row `50 k` of the output block on holds what the block is to hold there. -/
theorem piece (k : ℕ) (hk : k < 4) (inb : ∀ a, (![0, 50 * k, 0] : Fin 3 → ℕ) a + S1x50x16.size a ≤ S1x200x16.size a)
    (x : FVec Ideal S5000x128 .f32)
    (hx : ∀ (r : Fin 5000) (d : Fin 128), x (ix2 r d) = X (ix2 (⟨5000 * (4 * t.val + k) + r.val, by omega⟩ : Fin 100000) d))
    (j : S1x50x16.Idx) :
    chunk (loaded (both Wm bm Ww bw) r0_0) (loaded (both Wm bm Ww bw) r0_1) x j
      = target X Wm bm Ww bw t ((Rect.unit (s := S1x200x16) ![0, 50 * k, 0] S1x50x16.size inb).emb j) := by
  obtain ⟨u, s, h, rfl⟩ : ∃ (u : Fin 1) (s : Fin 50) (h : Fin 16), j = ix3 u s h := ⟨_, _, _, eq_ix3 j⟩
  refine (chunk_readout X Wm bm Ww bw x ⟨4 * t.val + k, by omega⟩ hx u s h ⟨200 * t.val + (50 * k + s.val), by omega⟩ ?_).trans ?_
  · show 200 * t.val + (50 * k + s.val) = 50 * (4 * t.val + k) + s.val
    omega
  · have e1 : global t (((Rect.unit (s := S1x200x16) ![0, 50 * k, 0] S1x50x16.size inb).emb (ix3 u s h)) 1)
        = ⟨200 * t.val + (50 * k + s.val), by omega⟩ :=
      Fin.ext (congrArg (200 * t.val + ·) (Rect.idx_unit_val (s := S1x200x16) ![0, 50 * k, 0] S1x50x16.size inb (ix3 u s h) 1))
    have e2 : ((Rect.unit (s := S1x200x16) ![0, 50 * k, 0] S1x50x16.size inb).emb (ix3 u s h)) 2 = h :=
      Fin.ext ((Rect.idx_unit_val (s := S1x200x16) ![0, 50 * k, 0] S1x50x16.size inb (ix3 u s h) 2).trans (Nat.zero_add _))
    unfold target
    rw [e1, e2]

/-- The output block after the body: its four stores, each a chunk's result. -/
theorem out_eq {F : FTy → Type} [FloatOps F] (x0 x1 : Vec F S10000x128 .f32) (x2 : Vec F S129x17 .f32) :
    out0_3 x0 x1 x2 = View.canon [⟨r0_7, chunk (View.ld x2 r0_0) (View.ld x2 r0_1) (View.ld x1 r0_4)⟩,
      ⟨r0_6, chunk (View.ld x2 r0_0) (View.ld x2 r0_1) (View.ld x1 r0_2)⟩,
      ⟨r0_5, chunk (View.ld x2 r0_0) (View.ld x2 r0_1) (View.ld x0 r0_4)⟩,
      ⟨r0_3, chunk (View.ld x2 r0_0) (View.ld x2 r0_1) (View.ld x0 r0_2)⟩] := by
  unfold_out out0_3
  rw [first_eq, second_eq, third_eq]
  rfl

/-- The output block after the body, at an index, when the two blocks of atoms are the step's twenty thousand. -/
theorem out_apply (x0 x1 : FVec Ideal S10000x128 .f32)
    (hx0 : ∀ (r : Fin 10000) (d : Fin 128), x0 (ix2 r d) = X (ix2 (⟨20000 * t.val + r.val, by omega⟩ : Fin 100000) d))
    (hx1 : ∀ (r : Fin 10000) (d : Fin 128), x1 (ix2 r d) = X (ix2 (⟨20000 * t.val + 10000 + r.val, by omega⟩ : Fin 100000) d)) (i : S1x200x16.Idx) : out0_3 x0 x1 (both Wm bm Ww bw) i = target X Wm bm Ww bw t i := by
  rw [out_eq]
  refine View.canon_apply_of_pieces (Val := Elt Ideal) (e := .f32) (target X Wm bm Ww bw t) _ ?_ i (cover0_3 _ _ _ _ i)
  intro p hp
  simp only [List.mem_cons, List.not_mem_nil, or_false] at hp
  rcases hp with rfl | rfl | rfl | rfl
  · refine piece X Wm bm Ww bw t 3 (by decide) inb_S1x200x16_S1x50x16_0_150_0 (loaded x1 r0_4) fun r d => ?_
    rw [load_lower, hx1]
    congr 2; apply Fin.ext; dsimp only; omega
  · refine piece X Wm bm Ww bw t 2 (by decide) inb_S1x200x16_S1x50x16_0_100_0 (loaded x1 r0_2) fun r d => ?_
    rw [load_upper, hx1]
    congr 2; apply Fin.ext; dsimp only; omega
  · refine piece X Wm bm Ww bw t 1 (by decide) inb_S1x200x16_S1x50x16_0_50_0 (loaded x0 r0_4) fun r d => ?_
    rw [load_lower, hx0]
    congr 2; apply Fin.ext; dsimp only; omega
  · refine piece X Wm bm Ww bw t 0 (by decide) inb_S1x200x16_S1x50x16_0_0_0 (loaded x0 r0_2) fun r d => ?_
    rw [load_upper, hx0]
    congr 2; apply Fin.ext; dsimp only; omega

end Cert.Block
-- ==== Proof.Array.lean ====
/- The array the grid writes: five blocks of two hundred structures' readouts, one per step, which tile it. -/
module

public import proofs.«01_k».proof.Proof.Block
public import Idealize.ShloMosaic.Lib.Pipeline.Value

@[expose] public section

set_option maxRecDepth 16384

noncomputable section

namespace Cert.Array

open Cert.KernelIdeal Cert.KernelIdeal.Gen Cert.Readout Cert.Joined Idealize.ShloMosaic Idealize.ShloMosaic.TcCoe Idealize.ShloMosaic.ValueIdx
open Idealize.ShloMosaic.Pipeline (Dat)

variable (m : (ℓ : Loc nD τ sig) → Buf (Elt Ideal) ℓ) (c : Dev nD)

/-- The readouts of device `c`'s arguments. -/
abbrev answer (s : Fin 1000) (h : Fin 16) : EReal :=
  readout (m ((c : Thread nD τ).loc main_arg0)) (m ((c : Thread nD τ).loc main_arg2)) (m ((c : Thread nD τ).loc main_arg3))
    (m ((c : Thread nD τ).loc main_arg4)) (m ((c : Thread nD τ).loc main_arg5)) s h

/-- The grid's steps are numbered below five. -/
theorem step_lt (t : Fin cfg0.N) : t.val < 5 := N_0 ▸ t.isLt

/-- A step, as a number below five. -/
abbrev step (t : Fin cfg0.N) : Fin 5 := ⟨t.val, step_lt t⟩

/-! ## Where the blocks lie -/

/-- The first window's block of atoms. -/
theorem index_0 : ∀ t : Fin cfg0.N, win0_0.index t 0 = 2 * t.val ∧ win0_0.index t 1 = 0 :=
  (by decide +kernel : ∀ t : Fin grid0.N, win0_0.index t 0 = 2 * t.val ∧ win0_0.index t 1 = 0)

/-- The second window's, the block after it. -/
theorem index_1 : ∀ t : Fin cfg0.N, win0_1.index t 0 = 2 * t.val + 1 ∧ win0_1.index t 1 = 0 :=
  (by decide +kernel : ∀ t : Fin grid0.N, win0_1.index t 0 = 2 * t.val + 1 ∧ win0_1.index t 1 = 0)

/-- The joined layers' block is the whole array. -/
theorem index_2 : ∀ t : Fin cfg0.N, win0_2.index t 0 = 0 ∧ win0_2.index t 1 = 0 :=
  (by decide +kernel : ∀ t : Fin grid0.N, win0_2.index t 0 = 0 ∧ win0_2.index t 1 = 0)

/-- The output's block. -/
theorem index_3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)

/-! ## What the body reads at a step -/

/-- The first block of atoms. -/
theorem block_0 (t : Fin cfg0.N) (r : Fin 10000) (d : Fin 128) :
    iblk m c 0 t (ix2 r d) = m ((c : Thread nD τ).loc main_arg0) (ix2 (⟨20000 * t.val + r.val, by have := step_lt t; omega⟩ : Fin 100000) d) := by
  show V m c main_arg0 ((win0_0.rect t).emb (ix2 r d)) = _
  rw [V_main_arg0]
  refine congrArg (m ((c : Thread nD τ).loc main_arg0)) (funext fun a => Fin.ext ?_)
  refine (win0_0.rect_emb_val t (ix2 r d) a).trans ?_
  match a with
  | ⟨0, _⟩ =>
    show win0_0.index t 0 * 10000 + r.val = 20000 * t.val + r.val
    rw [(index_0 t).1]; omega
  | ⟨1, _⟩ =>
    show win0_0.index t 1 * 128 + d.val = d.val
    rw [(index_0 t).2]; omega

/-- The second block of atoms. -/
theorem block_1 (t : Fin cfg0.N) (r : Fin 10000) (d : Fin 128) :
    iblk m c 1 t (ix2 r d) = m ((c : Thread nD τ).loc main_arg0) (ix2 (⟨20000 * t.val + 10000 + r.val, by have := step_lt t; omega⟩ : Fin 100000) d) := by
  show V m c main_arg0 ((win0_1.rect t).emb (ix2 r d)) = _
  rw [V_main_arg0]
  refine congrArg (m ((c : Thread nD τ).loc main_arg0)) (funext fun a => Fin.ext ?_)
  refine (win0_1.rect_emb_val t (ix2 r d) a).trans ?_
  match a with
  | ⟨0, _⟩ =>
    show win0_1.index t 0 * 10000 + r.val = 20000 * t.val + 10000 + r.val
    rw [(index_1 t).1]; omega
  | ⟨1, _⟩ =>
    show win0_1.index t 1 * 128 + d.val = d.val
    rw [(index_1 t).2]; omega

/-- The joined layers. -/
theorem block_2 (t : Fin cfg0.N) :
    iblk m c 2 t = both (F := Ideal) (m ((c : Thread nD τ).loc main_arg2)) (m ((c : Thread nD τ).loc main_arg3))
      (m ((c : Thread nD τ).loc main_arg4)) (m ((c : Thread nD τ).loc main_arg5)) := by
  rw [← entry m c]
  funext i
  show V m c main_v3 ((win0_2.rect t).emb i) = V m c main_v3 i
  refine congrArg (V m c main_v3) (funext fun a => Fin.ext ?_)
  refine win0_2.rect_emb_val_of_index_zero t a ?_ i
  match a with
  | ⟨0, _⟩ => exact (index_2 t).1
  | ⟨1, _⟩ => exact (index_2 t).2

/-! ## What the array holds -/

/-- The array of all the readouts, in five blocks of two hundred. -/
def blocks : Buf (Elt Ideal) ((c : Thread nD τ).loc main_v4) :=
  fun i : S5x200x16.Idx => answer m c ⟨200 * (i 0).val + (i 1).val, by
    have h0 : (i 0).val < 5 := (i 0).isLt
    have h1 : (i 1).val < 200 := (i 1).isLt
    omega⟩ (i 2)

/-- What step `t` writes back is its block of that array. -/
theorem flushed_eq (t : Fin cfg0.N) : (dats m 0 c).flushed 3 t = (win0_3.blk t).view.read (Elt Ideal) (blocks m c) := by
  show (cfg0.win 3).cut (grid0.coords t) ((dats m 0 c).after 3 t) = _
  rw [after0_3, block_2]
  funext i
  refine (Block.out_apply (m ((c : Thread nD τ).loc main_arg0)) _ _ _ _ (step t) (iblk m c 0 t) (iblk m c 1 t)
    (block_0 m c t) (block_1 m c t) i).trans ?_
  show Block.target _ _ _ _ _ (step t) i = blocks m c ((win0_3.rect t).emb i)
  have hi : (i 0).val < 1 := (i 0).isLt
  have e0 : ((win0_3.rect t).emb i 0).val = t.val := by
    refine (win0_3.rect_emb_val t i 0).trans ?_
    show win0_3.index t 0 * 1 + (i 0).val = t.val
    rw [(index_3 t).1]; omega
  have e1 : ((win0_3.rect t).emb i 1).val = (i 1).val := win0_3.rect_emb_val_of_index_zero t 1 (index_3 t).2.1 i
  have e2 : ((win0_3.rect t).emb i 2).val = (i 2).val := win0_3.rect_emb_val_of_index_zero t 2 (index_3 t).2.2 i
  unfold Block.target blocks
  exact congrArg₂ (answer m c) (Fin.ext (by
    show 200 * t.val + (i 1).val = 200 * ((win0_3.rect t).emb i 0).val + ((win0_3.rect t).emb i 1).val
    rw [e0, e1])) (Fin.ext e2.symm)

/-- An index of the array lies in step `t`'s block when its first coordinate is `t`. -/
theorem mem_blk (t : Fin cfg0.N) (i : S5x200x16.Idx) (hi : (i 0).val = t.val) : i ∈ ((cfg0.win 3).blk t).view.set := by
  show i ∈ ((View.whole main_v4).slice (win0_3.rect t)).set
  rw [View.set_slice_whole, Rect.mem_set_unit]
  intro a
  match a with
  | ⟨0, _⟩ =>
    show win0_3.index t 0 * 1 ≤ (i 0).val ∧ (i 0).val < win0_3.index t 0 * 1 + 1
    rw [(index_3 t).1]; omega
  | ⟨1, _⟩ =>
    have h1 : (i 1).val < 200 := (i 1).isLt
    show win0_3.index t 1 * 200 ≤ (i 1).val ∧ (i 1).val < win0_3.index t 1 * 200 + 200
    rw [(index_3 t).2.1]; omega
  | ⟨2, _⟩ =>
    have h2 : (i 2).val < 16 := (i 2).isLt
    show win0_3.index t 2 * 16 ≤ (i 2).val ∧ (i 2).val < win0_3.index t 2 * 16 + 16
    rw [(index_3 t).2.2]; omega

/-- After the grid the array holds all the readouts. -/
theorem final : (dats m 0 c).arrAt 3 cfg0.N = blocks m c :=
  (dats m 0 c).arrAt_eq_of_cover 3 (blocks m c) (fun t _ => flushed_eq m c t) fun i =>
    ⟨⟨(i 0).val, lt_of_lt_of_eq (show (i 0).val < 5 from (i 0).isLt) N_0.symm⟩, flush0_3 _, mem_blk _ i rfl⟩

end Cert.Array
-- ==== Proof.KernelRun.lean ====
/- The kernel's run: its result, the written array read as a thousand rows, holds the readouts of its arguments. -/
module

public import proofs.«01_k».proof.Proof.Array
public import Idealize.ShloMosaic.Lib.Quiescent

@[expose] public section

set_option maxRecDepth 16384

noncomputable section

namespace Cert.KernelRun

open Cert.KernelIdeal Cert.KernelIdeal.Gen Cert.Array Idealize.ShloMosaic Idealize.ShloMosaic.TcCoe Idealize.ShloMosaic.ValueIdx Idealize.SL.Sem

variable (m : (ℓ : Loc nD τ sig) → Buf (Elt Ideal) ℓ) (c : Dev nD)

/-- All the readouts, a row for each structure. -/
def rows : Buf (Elt Ideal) ((c : Thread nD τ).loc main_v5) := fun i : S1000x16.Idx => answer m c (i 0) (i 1)

/-- The blocks' array read as a thousand rows. -/
theorem rows_eq : shapeCast S1000x16 (blocks m c) shapeCasts_S5x200x16_S1000x16 = rows m c := by
  funext i
  obtain ⟨s, h, rfl⟩ : ∃ (s : Fin 1000) (h : Fin 16), i = ix2 s h := ⟨_, _, eq_ix2 i⟩
  refine (shapeCast_apply _ _ (ix2 s h) (ix3 (⟨s.val / 200, by omega⟩ : Fin 5) (⟨s.val % 200, by omega⟩ : Fin 200) h) ?_).trans ?_
  · rw [Shape.rowMajor_val_three, Shape.rowMajor_val_two]
    show (s.val / 200 * 200 + s.val % 200) * 16 + h.val = s.val * 16 + h.val
    omega
  · exact congrArg (answer m c · h) (Fin.ext (show 200 * (s.val / 200) + s.val % 200 = s.val by omega))

/-- What the kernel's last line leaves in the result. -/
theorem result_eq : Pipeline.afterTail₀ cfgs (dats m) 0 (V0 m) [hostOps1] c main_v5 = rows m c := by
  unfold Pipeline.afterTail₀
  rw [List.flatten_cons, List.flatten_nil, List.append_nil]
  have hv : Pipeline.withArrays (cfgs 0).spec c (V0 m c) (fun w => (dats m 0 c).arrAt w (cfgs 0).N) (Proc.devRef .tc main_v4) = blocks m c :=
    ((dats m 0 c).withArrays_arrAt sharedIn0 (V0 m c) (A_eq m c) 3).trans (final m c)
  after_results
  rw [hv]
  exact rows_eq m c

/-- The run: the result holds the readouts and the arguments are unchanged. -/
theorem run (ρ : Dev nD → PrngReg) : θ_run defs (onTc (τ := τ) (main (F := Ideal))) ⟨m, fun _ => 0, ρ⟩ fun r => ∀ c : Dev nD,
      r.2.mem ((c.tc : Thread nD τ).loc main_v5) = rows m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h.1 c).trans (result_eq m c), h.2 c⟩) (θ_run_and
    ((θ_run defs _ _).mono (fun _ h c => (h c).2 main_v5 (Pipeline.mem_restRefs_of main_v5 (by decide) (by decide))) (run_main m ρ))
    (unchanged m ρ))

end Cert.KernelRun
-- ==== Proof.Scatter.lean ====
/- Where the updates of a scatter land and what it leaves, at any extents: scalars into a vector and rows into a matrix,
   one index word each. The host's accumulating float scatter is then the operand plus the sum of the updates whose word is
   the element's row. -/
module

public import Idealize.ShloMosaic.PureOps.Ideal.Laws
public import Idealize.ShloMosaic.Lib.Routing.Ops
public import Idealize.ShloMosaic.Lib.Routing.OpsPair

@[expose] public section

noncomputable section

namespace Cert.Scatter

open Idealize.ShloMosaic Idealize.ShloMosaic.ValueIdx Idealize.ShloMosaic.Routing
open scoped BigOperators

/-- A scatter along the operand's first axis by one word per update row starts, on that axis, at the row's word: `i` is the
    update's first coordinate, and the updates' scatter axes are that one (`hrow`). -/
theorem start_word {s u : Shape} {M : ℕ} (d : ScatterDims s (shape2 M 1) u) (k : u.Idx) (a : Fin s.rank) (hsd : d.scatterDimsToOperandDims = [a])
    (hivd : d.indexVectorDim = 1) (idx : IVec (shape2 M 1) 32) (i : Fin M) (hrow : ∀ h, (d.siCoord k (0 : Fin 2) h).val = i.val) :
    d.start k idx a = (idx (ix2 i (0 : Fin 1))).toInt := by
  have hm : a ∈ d.scatterDimsToOperandDims := by rw [hsd]; exact List.mem_singleton.2 rfl
  unfold ScatterDims.start
  rw [dif_pos hm]
  have hsi : d.siIdx k ⟨d.scatterDimsToOperandDims.idxOf a, List.idxOf_lt_length_iff.2 hm⟩ = ix2 i (0 : Fin 1) := by
    funext b'
    match b' with
    | ⟨0, _⟩ =>
      apply Fin.ext
      unfold ScatterDims.siIdx
      rw [dif_neg (by rw [hivd]; exact Nat.zero_ne_one)]
      exact hrow _
    | ⟨1, _⟩ => exact Subsingleton.elim (α := Fin 1) _ _
  rw [hsi]

/-- Update `i` of a scatter of `M` scalars into a vector of `N`, one index word each, lands at `x` exactly when its word, read
    signed, is `x`. -/
theorem lands_scalar {N M : ℕ} (d : ScatterDims (shape1 N) (shape2 M 1) (shape1 M)) (hiw : d.insertedWindowDims = [0])
    (hsd : d.scatterDimsToOperandDims = [0]) (hivd : d.indexVectorDim = 1) (idx : IVec (shape2 M 1) 32) (i : Fin M) (x : Fin N) :
    d.resultIdx? (ix1 i) idx = some (ix1 x) ↔ (idx (ix2 i (0 : Fin 1))).toInt = (x.val : Int) := by
  have hwin : d.window (ix1 i) 0 = 0 := by
    unfold ScatterDims.window
    rw [dif_neg fun h => (of_decide_eq_true (List.mem_filter.1 h).2) (by rw [hiw]; exact List.mem_singleton.2 rfl)]
  rw [resultIdx?_ix1, hwin, start_word d (ix1 i) 0 hsd hivd idx i fun h => by
    have q : ∀ X : Fin 1, (ix1 i X).val = i.val := fun X => by
      obtain rfl : X = 0 := Subsingleton.elim _ _
      rfl
    exact q _]
  simp

/-- Entry `c` of update row `i` of a scatter of `M` rows into a matrix of `N`, one index word each, lands at `(x, e)` exactly when
    the row's word, read signed, is `x` and the columns agree. -/
theorem lands_row {N M C : ℕ} (d : ScatterDims (shape2 N C) (shape2 M 1) (shape2 M C)) (huw : d.updateWindowDims = [1])
    (hiw : d.insertedWindowDims = [0]) (hsd : d.scatterDimsToOperandDims = [0]) (hivd : d.indexVectorDim = 1)
    (idx : IVec (shape2 M 1) 32) (i : Fin M) (c : Fin C) (x : Fin N) (e : Fin C) :
    d.resultIdx? (ix2 i c) idx = some (ix2 x e) ↔ (idx (ix2 i (0 : Fin 1))).toInt = (x.val : Int) ∧ c = e := by
  have hkept : d.sKept = [1] := by
    show (shape2 N C).kept d.insertedWindowDims = _
    rw [hiw]
    rfl
  have hscat : d.uScatter = [0] := by
    show (shape2 M C).kept d.updateWindowDims = _
    rw [huw]
    rfl
  have hwin0 : d.window (ix2 i c) 0 = 0 := by
    unfold ScatterDims.window
    rw [dif_neg fun h => by rw [hkept] at h; exact absurd (List.mem_singleton.1 h) (by decide : (0 : Fin 2) ≠ 1)]
  have hwin1 : d.window (ix2 i c) 1 = c.val := by
    unfold ScatterDims.window
    rw [dif_pos (by rw [hkept]; exact List.mem_singleton.2 rfl)]
    have q : ∀ X ∈ d.updateWindowDims, (ix2 i c X).val = c.val := fun X hX => by
      rw [huw] at hX
      obtain rfl := List.mem_singleton.1 hX
      rfl
    exact q _ (List.getElem_mem _)
  have hstart0 : d.start (ix2 i c) idx 0 = (idx (ix2 i (0 : Fin 1))).toInt :=
    start_word d (ix2 i c) 0 hsd hivd idx i fun h => by
      have q : ∀ X ∈ d.uScatter, (ix2 i c X).val = i.val := fun X hX => by
        rw [hscat] at hX
        obtain rfl := List.mem_singleton.1 hX
        rfl
      exact q _ (List.getElem_mem _)
  have hstart1 : d.start (ix2 i c) idx 1 = 0 := by
    unfold ScatterDims.start
    rw [dif_neg fun h => by rw [hsd] at h; exact absurd (List.mem_singleton.1 h) (by decide : (1 : Fin 2) ≠ 0)]
  rw [resultIdx?_ix2, hstart0, hstart1, hwin0, hwin1, Fin.ext_iff]
  omega

/-! ## The accumulating float scatter -/

/-- A sum over the indices of a vector is the sum over its positions. -/
theorem sum_ix1 {M : ℕ} (f : (shape1 M).Idx → EReal) : ∑ j, f j = ∑ i : Fin M, f (ix1 i) :=
  (Fintype.sum_equiv ⟨fun i => ix1 i, fun j => j 0, fun _ => rfl, fun j => (eq_ix1 j).symm⟩ _ _ fun _ => rfl).symm

/-- The host's accumulating scatter of scalars: entry `x` is the operand's plus the updates whose word is `x`. -/
theorem add_scalars {N M : ℕ} (d : ScatterDims (shape1 N) (shape2 M 1) (shape1 M)) (hiw : d.insertedWindowDims = [0])
    (hsd : d.scatterDimsToOperandDims = [0]) (hivd : d.indexVectorDim = 1) (x0 : FVec Ideal (shape1 N) .f32)
    (idx : IVec (shape2 M 1) 32) (upd : FVec Ideal (shape1 M) .f32) (x : Fin N) :
    Host.scatterAdd d x0 idx upd (ix1 x)
      = x0 (ix1 x) + ∑ i : Fin M, if (idx (ix2 i (0 : Fin 1))).toInt = (x.val : Int) then upd (ix1 i) else 0 := by
  show x0 (ix1 x) + ∑ j ∈ Finset.univ.filter (fun j => d.resultIdx? j idx = some (ix1 x)), upd j = _
  rw [Finset.sum_filter, sum_ix1]
  refine congrArg _ (Finset.sum_congr rfl fun i _ => ?_)
  exact if_congr (lands_scalar d hiw hsd hivd idx i x) rfl rfl

/-- The host's accumulating scatter of rows: entry `(x, e)` is the operand's plus the updates' entries `e` in the rows whose
    word is `x`. -/
theorem add_rows {N M C : ℕ} (d : ScatterDims (shape2 N C) (shape2 M 1) (shape2 M C)) (huw : d.updateWindowDims = [1])
    (hiw : d.insertedWindowDims = [0]) (hsd : d.scatterDimsToOperandDims = [0]) (hivd : d.indexVectorDim = 1)
    (x0 : FVec Ideal (shape2 N C) .f32) (idx : IVec (shape2 M 1) 32) (upd : FVec Ideal (shape2 M C) .f32) (x : Fin N) (e : Fin C) :
    Host.scatterAdd d x0 idx upd (ix2 x e)
      = x0 (ix2 x e) + ∑ i : Fin M, if (idx (ix2 i (0 : Fin 1))).toInt = (x.val : Int) then upd (ix2 i e) else 0 := by
  show x0 (ix2 x e) + ∑ j ∈ Finset.univ.filter (fun j => d.resultIdx? j idx = some (ix2 x e)), upd j = _
  rw [Finset.sum_filter, sum_idx2]
  refine congrArg _ (Finset.sum_congr rfl fun i _ => ?_)
  rw [Finset.sum_eq_single e]
  · exact if_congr ((lands_row d huw hiw hsd hivd idx i e x e).trans (and_iff_left rfl)) rfl rfl
  · exact fun c _ hc => if_neg fun h => hc ((lands_row d huw hiw hsd hivd idx i c x e).1 h).2
  · exact fun h => absurd (Finset.mem_univ e) h

/-! ## Counting by a scatter of ones -/

/-- Adding the word one at each element of a list that has `P` adds the number of those elements. -/
theorem foldl_ones {ι : Type} (P : ι → Prop) [DecidablePred P] (l : List ι) (z : ℕ) :
    l.foldl (fun a n => if P n then IntOp.addi a 1#32 else a) (BitVec.ofNat 32 z) = BitVec.ofNat 32 (z + l.countP (fun n => decide (P n))) := by
  induction l generalizing z with
  | nil => rfl
  | cons n l ih =>
    rw [List.foldl_cons, List.countP_cons]
    by_cases h : P n
    · rw [if_pos h, show IntOp.addi (BitVec.ofNat 32 z) 1#32 = BitVec.ofNat 32 (z + 1) from (BitVec.ofNat_add z 1).symm, ih]
      simp only [h, decide_true, if_true]
      congr 1; omega
    · rw [if_neg h, ih]
      simp [h]

/-- Ones scattered and added into zeros count: entry `x` is the number of index words that hold `x`. -/
theorem count_ones {N M : ℕ} (d : ScatterDims (shape1 N) (shape2 M 1) (shape1 M)) (hiw : d.insertedWindowDims = [0])
    (hsd : d.scatterDimsToOperandDims = [0]) (hivd : d.indexVectorDim = 1) (x0 : IVec (shape1 N) 32) (hx0 : ∀ i, x0 i = 0#32)
    (idx : IVec (shape2 M 1) 32) (upd : IVec (shape1 M) 32) (hupd : ∀ i, upd i = 1#32) (gi : ℕ → ℕ)
    (hg : ∀ i : Fin M, (idx (ix2 i (0 : Fin 1))).toInt = (gi i.val : Int)) (x : Fin N) :
    Host.scatter d IntOp.addi x0 idx upd (ix1 x) = BitVec.ofNat 32 (Nat.count (fun i => gi i = x.val) M) := by
  rw [scatter_at, hx0]
  have hstep : (fun (a : BitVec 32) (n : Fin (shape1 M).numel) =>
        if d.resultIdx? ((shape1 M).rowMajor.symm n) idx = some (ix1 x) then IntOp.addi a (upd ((shape1 M).rowMajor.symm n)) else a)
      = fun a n => if gi n.val = x.val then IntOp.addi a 1#32 else a := by
    funext a n
    rw [hupd, symm1]
    refine if_congr ((lands_scalar d hiw hsd hivd idx _ x).trans ?_) rfl rfl
    rw [hg, Fin.val_cast]
    exact Nat.cast_inj
  rw [hstep]
  refine (foldl_ones (fun n : Fin (shape1 M).numel => gi n.val = x.val) _ 0).trans ?_
  rw [Nat.zero_add, countP_finRange _ (fun i => gi i = x.val), numel1]

/-! ## Counting -/

/-- The numbers of `i < n` with `g i = 0`, …, `g i = J - 1` add to the number with `g i < J`. -/
theorem sum_count (g : ℕ → ℕ) (n J : ℕ) : ((List.range J).map fun x => Nat.count (fun i => g i = x) n).sum = Nat.count (fun i => g i < J) n := by
  induction J with
  | zero => simp
  | succ J ih =>
    rw [List.range_succ, List.map_append, List.sum_append, ih]
    simp only [List.map_cons, List.map_nil, List.sum_cons, List.sum_nil, Nat.add_zero]
    clear ih
    induction n with
    | zero => rfl
    | succ n ihn =>
      rw [Nat.count_succ, Nat.count_succ, Nat.count_succ, ← ihn]
      split_ifs <;> omega

/-- Of the multiples `0, b, …, (n - 1) b`, those below `J` are `⌈J / b⌉` many, or all `n`. -/
theorem count_multiples (b : ℕ) (hb : 0 < b) (n J : ℕ) : Nat.count (fun i => b * i < J) n = min n ((J + b - 1) / b) := by
  induction n with
  | zero => simp
  | succ n ih =>
    rw [Nat.count_succ, ih]
    have key : b * n < J ↔ n < (J + b - 1) / b := by
      rw [Nat.lt_div_iff_mul_lt hb, Nat.mul_comm n b]
      omega
    split_ifs with h
    · have := key.1 h; omega
    · have := mt key.2 h; omega

end Cert.Scatter

end
-- ==== Proof.SegmentIds.lean ====
/- The segment word of every atom, as the reference computes it, where every structure has a hundred atoms: the running sum
   of the shifted counts gives each structure's first atom, a one is added there, and the running sum of those, less one, is
   the structure the atom belongs to. -/
module

public import proofs.«01_k».proof.Proof.Gen.ReferenceIdeal.Read
public import proofs.«01_k».proof.Proof.Scatter
public import Idealize.ShloMosaic.Lib.Routing.BitFacts
public import Idealize.ShloMosaic.Lib.Routing.OpsOne
public import Idealize.ShloMosaic.Lib.Routing.OpsSet
public import Idealize.ShloMosaic.Lib.ReduceAll
public import Idealize.ShloMosaic.Lib.Pointwise.SelectCore
public import Idealize.ShloMosaic.Lib.StableHlo.Predicate

@[expose] public section

set_option maxRecDepth 16384

noncomputable section

namespace Cert.SegmentIds

open Cert.ReferenceIdeal Cert.ReferenceIdeal.Read Idealize.ShloMosaic.ValueIdx Idealize.ShloMosaic.Routing
open Idealize.ShloMosaic hiding ix1 ix2 eq_ix1 eq_ix2

variable {F : FTy → Type} [FloatOps F] (x1 : (⟨S1000, .i32⟩ : BufTy).Contents (Elt F)) (h1 : ∀ i, x1 i = 100#32)

/-- A word below `2 ^ 31` is not wrapped by jax's test for a negative index. -/
theorem wrap_small {n : ℕ} (hn : n < 2 ^ 31) (a : BitVec 32) :
    Scalar.select (IntOp.cmpi .slt (BitVec.ofNat 32 n) 0#32) a (BitVec.ofNat 32 n) = BitVec.ofNat 32 n := by
  refine wrap_of_lt _ _ ?_
  rw [BitVec.toNat_ofNat, Nat.mod_eq_of_lt (by omega)]
  exact hn

include h1

/-- Rolling a constant vector leaves it constant. -/
theorem rolled (i : S1000.Idx) : val_main_v1 (F := F) x1 i = 100#32 := by
  unfold val_main_v1
  refine concatenate_forall (P := fun x => x = 100#32) S1000 0 _ _ ?_ i
  intro p hp
  rcases List.mem_cons.1 hp with rfl | hp
  · intro i; exact (val_main_call0_v0_apply x1 i).trans (h1 _)
  · rcases List.mem_cons.1 hp with rfl | hp
    · intro i; exact (val_main_call0_v1_apply x1 i).trans (h1 _)
    · exact absurd hp List.not_mem_nil

/-- With its first element zeroed, the rolled vector is zero at 0 and a hundred elsewhere. -/
theorem shifted (e : Fin 1000) : val_main_v3 (F := F) x1 (ix1 e) = BitVec.ofNat 32 (if e.val = 0 then 0 else 100) := by
  unfold val_main_v3
  refine (scatter_one_signed scatter_S1000_S1_S__n_0_0_0 rfl rfl _ _ _ (0 : Fin 1000) ?_ e).trans ?_
  · rw [val_main_v2_apply, val_main_c_apply]; rfl
  · rw [rolled x1 h1, val_main_c_0_apply]
    by_cases h : e = 0
    · subst h; rfl
    · rw [if_neg h, if_neg (fun h' : e.val = 0 => h (Fin.ext h'))]

omit h1 in
/-- The running sum of zero and then hundreds. -/
theorem sum_shifted (j : ℕ) : ((List.range (j + 1)).map fun i => if i = 0 then 0 else 100).sum = 100 * j := by
  induction j with
  | zero => rfl
  | succ j ih =>
    rw [List.range_succ, List.map_append, List.sum_append, ih]
    simp only [List.map_cons, List.map_nil, List.sum_cons, List.sum_nil, Nat.add_zero, Nat.succ_ne_zero, if_false, reduceIte]
    omega

/-- Structure `j` starts at atom `100 * j`. -/
theorem first (j : Fin 1000) : val_main_v4 (F := F) x1 (ix1 j) = BitVec.ofNat 32 (100 * j.val) := by
  unfold val_main_v4
  refine (cumsum1 (N := 1000) (Nm1 := 999) rfl _ (fun i => if i = 0 then 0 else 100) (shifted x1 h1) _ ?_ _ _ j).trans ?_
  · rw [val_main_call1_call0_v0_apply, val_main_call1_call0_c_apply]
  · rw [sum_shifted]

/-- The index word a one is scattered at, for structure `j`. -/
theorem start (j : Fin 1000) : val_main_v11 (F := F) x1 (ix2 j (0 : Fin 1)) = BitVec.ofNat 32 (100 * j.val) := by
  have e : idx_main_v11 (ix2 j (0 : Fin 1)) = ix1 j := eq_ix1 _
  rw [val_main_v11_apply, e, val_main_v10_apply, val_main_v7_apply, val_main_v6_apply, val_main_c_2_apply, first x1 h1]
  exact wrap_small (by have := j.isLt; omega) _

/-- The ones scattered at the starts: how many structures start at atom `x`. -/
theorem marks (x : Fin 100000) :
    val_main_v13 (F := F) x1 (ix1 x) = BitVec.ofNat 32 (Nat.count (fun i => 100 * i = x.val) 1000) := by
  unfold val_main_v13
  refine Cert.Scatter.count_ones (N := 100000) (M := 1000) scatter_S100000_S1000x1_S1000_n_0_0_1 rfl rfl rfl _ ?_ _ _ ?_ (fun i => 100 * i) ?_ x
  · intro i; rw [val_main_v5_apply, val_main_c_1_apply]
  · intro i; rw [val_main_v12_apply, val_main_c_4_apply]
  · intro i
    rw [start x1 h1, StableHlo.Predicate.toInt_ofNat_small _ (by have := i.isLt; omega)]

/-- The running sum of the marks: how many structures start at or before atom `j`. -/
theorem started (j : Fin 100000) : val_main_v14 (F := F) x1 (ix1 j) = BitVec.ofNat 32 (j.val / 100 + 1) := by
  unfold val_main_v14
  refine (cumsum1 (N := 100000) (Nm1 := 99999) rfl _ (fun x => Nat.count (fun i => 100 * i = x) 1000) (marks x1 h1) _ ?_ _ _ j).trans ?_
  · rw [val_main_call2_call0_v0_apply, val_main_call2_call0_c_apply]
  · rw [Cert.Scatter.sum_count, Cert.Scatter.count_multiples 100 (by decide)]
    congr 1
    have := j.isLt
    omega

/-- The position looked up for atom `j` in the list of structure numbers. -/
theorem position (j : Fin 100000) : val_main_v16 (F := F) x1 (ix1 j) = BitVec.ofNat 32 (j.val / 100) := by
  rw [val_main_v16_apply, started x1 h1, val_main_v15_apply, val_main_c_5_apply]
  exact ofNat32_sub (Nat.le_add_left 1 _)

/-- The same word, after jax's wrap of a negative index, as a column. -/
theorem position_col (j : Fin 100000) : val_main_call3_v5 (F := F) x1 (ix2 j (0 : Fin 1)) = BitVec.ofNat 32 (j.val / 100) := by
  have e : idx_main_call3_v5 (ix2 j (0 : Fin 1)) = ix1 j := eq_ix1 _
  rw [val_main_call3_v5_apply, e, val_main_call3_v4_apply, val_main_call3_v1_apply, val_main_call3_v0_apply, val_main_call3_c_apply,
    position x1 h1]
  exact wrap_small (by have := j.isLt; omega) _

/-- Every position is within the list. -/
theorem in_range (i : S100000x1.Idx) : val_main_call3_v11 (F := F) x1 i = 1#1 := by
  obtain ⟨j, rfl⟩ : ∃ j : Fin 100000, i = ix2 j (0 : Fin 1) :=
    ⟨i 0, (eq_ix2 i).trans (congrArg (ix2 (i 0)) (Subsingleton.elim (α := Fin 1) _ _))⟩
  have hj := j.isLt
  have hlo : val_main_call3_v7 (F := F) x1 (ix2 j (0 : Fin 1)) = 1#1 := by
    rw [val_main_call3_v7_apply, position_col x1 h1, val_main_call3_v6_apply, val_main_call3_c_2_apply]
    exact (StableHlo.Predicate.sge_iff_toNat (by rw [BitVec.toNat_ofNat]; omega) (by decide)).2 (Nat.zero_le _)
  have hhi : val_main_call3_v10 (F := F) x1 (ix2 j (0 : Fin 1)) = 1#1 := by
    rw [val_main_call3_v10_apply, position_col x1 h1, val_main_call3_v9_apply, val_main_call3_v8_apply, val_main_call3_c_1_apply]
    exact (StableHlo.Predicate.sle_iff_toNat (by rw [BitVec.toNat_ofNat]; omega) (by decide)).2
      (by rw [BitVec.toNat_ofNat]; show _ ≤ 999; omega)
  rw [val_main_call3_v11_apply, hlo, hhi]
  rfl

/-- The segment word of atom `r` is its structure, `r / 100`. -/
theorem segment (r : Fin 100000) : val_main_v17 (F := F) x1 (ix1 r) = BitVec.ofNat 32 (r.val / 100) := by
  have hr := r.isLt
  have hok : val_main_call3_v12 (F := F) x1 (ix1 r) = 1#1 := by
    unfold val_main_call3_v12
    exact Host.reduce_andi_one _ _ _ _ _ (val_main_call3_c_3_apply _) (in_range x1 h1)
  have hg : val_main_call3_v13 (F := F) x1 (ix1 r) = BitVec.ofNat 32 (r.val / 100) := by
    unfold val_main_call3_v13
    exact (gather_take1 gather_S1000_S100000x1_S100000_n_0_n_n_0_1_1 rfl rfl rfl rfl _ _ r ⟨r.val / 100, by omega⟩
      (position_col x1 h1 r) (by decide)).trans (val_main_v0_apply _)
  rw [val_main_v17_apply, hok, hg]
  rfl

/-- The segment words as the column each scatter reads. -/
theorem segment_col (r : Fin 100000) : (val_main_v35 (F := F) x1 (ix2 r (0 : Fin 1))).toInt = ((r.val / 100 : ℕ) : Int) := by
  have e : idx_main_v35 (ix2 r (0 : Fin 1)) = ix1 r := eq_ix1 _
  rw [val_main_v35_apply, e, segment x1 h1, StableHlo.Predicate.toInt_ofNat_small _ (by have := r.isLt; omega)]

end Cert.SegmentIds
-- ==== Proof.Reference.lean ====
/- What the reference computes at the ideal values, where every structure has a hundred atoms and a positive total weight:
   each atom's weight is divided by its structure's total before the weighed sum, which is the quotient of the two sums. -/
module

public import proofs.«01_k».proof.Proof.Readout
public import proofs.«01_k».proof.Proof.SegmentIds
public import Idealize.ShloMosaic.Lib.IdealHost

@[expose] public section

set_option maxRecDepth 16384

noncomputable section

namespace Cert.Reference

open Cert.ReferenceIdeal Cert.ReferenceIdeal.Read Cert.Readout Cert.SegmentIds
open Idealize.ShloMosaic.ValueIdx Idealize.ShloMosaic.Routing
open Idealize.ShloMosaic hiding ix1 ix2 eq_ix1 eq_ix2
open scoped BigOperators

variable (x0 : Arr S100000x128) (x1 : (⟨S1000, .i32⟩ : BufTy).Contents (Elt Ideal)) (x2 : Arr S128x16) (x3 : Arr S16)
  (x4 : Arr S128x1) (x5 : Arr S1)

/-- The features' linear layer. -/
theorem linear (r : Fin 100000) (h : Fin 16) : val_main_v21 (F := Ideal) x0 x2 x3 (ix2 r h) = layer x0 x2 x3 r h := by
  have el : ∀ k, lidx_main_v18 (ix2 r h) k = ix2 r k := fun k => eq_ix2 _
  have er : ∀ k, ridx_main_v18 (ix2 r h) k = ix2 k h := fun k => eq_ix2 _
  have eb : idx_main_v19 (idx_main_v20 (ix2 r h)) = ix1 h := eq_ix1 _
  rw [val_main_v21_apply, val_main_v18_apply, val_main_v20_apply, val_main_v19_apply, eb, Ideal.addf_def]
  simp only [el, er]
  rfl

/-- The features: the layer's output times its sigmoid. -/
theorem features (r : Fin 100000) (h : Fin 16) : val_main_v22 (F := Ideal) x0 x2 x3 (ix2 r h) = feature x0 x2 x3 r h := by
  rw [val_main_v22_apply, val_main_call4_v5_apply, val_main_call4_v4_apply, val_main_call4_cst_0_apply, val_main_call4_v3_apply,
    val_main_call4_v2_apply, val_main_call4_cst_apply, val_main_call4_v1_apply, val_main_call4_v0_apply, linear]
  simp only [Ideal.ofBits_def, Ideal.ofBits_one_f32]
  rfl

/-- The weights' linear layer. -/
theorem linear_weight (r : Fin 100000) : val_main_v26 (F := Ideal) x0 x4 x5 (ix2 r (0 : Fin 1)) = layer x0 x4 x5 r 0 := by
  have el : ∀ k, lidx_main_v23 (ix2 r (0 : Fin 1)) k = ix2 r k := fun k => eq_ix2 _
  have er : ∀ k, ridx_main_v23 (ix2 r (0 : Fin 1)) k = ix2 k (0 : Fin 1) := fun k => eq_ix2 _
  have eb : idx_main_v24 (idx_main_v25 (ix2 r (0 : Fin 1))) = ix1 (0 : Fin 1) := eq_ix1 _
  rw [val_main_v26_apply, val_main_v23_apply, val_main_v25_apply, val_main_v24_apply, eb, Ideal.addf_def]
  simp only [el, er]
  rfl

/-- The weights, as a column. -/
theorem weights_col (r : Fin 100000) : val_main_v32 (F := Ideal) x0 x4 x5 (ix2 r (0 : Fin 1)) = weight x0 x4 x5 r := by
  rw [val_main_v32_apply, val_main_v31_apply, val_main_cst_6_apply, val_main_v30_apply, val_main_v29_apply, val_main_cst_apply,
    val_main_v28_apply, val_main_v27_apply, linear_weight]
  simp only [Ideal.ofBits_def, Ideal.ofBits_one_f32]
  rfl

/-- The weights, as a vector. -/
theorem weights (r : Fin 100000) : val_main_v33 (F := Ideal) x0 x4 x5 (ix1 r) = weight x0 x4 x5 r := by
  have e : idx_main_v33 (ix1 r) = ix2 r (0 : Fin 1) := by
    refine (eq_ix2 _).trans ?_
    congr 1
    exact Fin.ext (Nat.div_one _)
  rw [val_main_v33_apply, e, weights_col]

/-- An atom's structure's number and its place in it. -/
theorem atom_div (s : Fin 1000) (p : Fin 100) : (atom s p).val / 100 = s.val := by
  show (100 * s.val + p.val) / 100 = s.val
  omega

variable (h1 : ∀ i, x1 i = 100#32)
include h1

/-- Selecting by an atom's segment word is selecting by its structure. -/
theorem segment_iff (r : Fin 100000) (s : Fin 1000) :
    (val_main_v35 (F := Ideal) x1 (ix2 r (0 : Fin 1))).toInt = (s.val : Int) ↔ r.val / 100 = s.val := by
  rw [segment_col x1 h1]
  exact Int.ofNat_inj

/-- The scattered weights: each structure's total. -/
theorem totals (s : Fin 1000) : val_main_v36 (F := Ideal) x0 x1 x4 x5 (ix1 s) = total x0 x4 x5 s := by
  unfold val_main_v36
  refine (Cert.Scatter.add_scalars (N := 1000) (M := 100000) scatter_S1000_S100000x1_S100000_n_0_0_1 rfl rfl rfl _ _ _ s).trans ?_
  rw [val_main_v34_apply, val_main_cst_7_apply, Ideal.ofBits_def, Ideal.ofBits_zero_f32, zero_add]
  simp only [segment_iff x1 h1, weights]
  exact sum_block 100000 rfl (weight x0 x4 x5) s (atom s) fun _ => rfl

/-- Each atom's structure's total, looked up. -/
theorem total_of_atom (s : Fin 1000) (p : Fin 100) :
    val_main_v43 (F := Ideal) x0 x1 x4 x5 (ix1 (atom s p)) = total x0 x4 x5 s := by
  have e : idx_main_v42 (ix2 (atom s p) (0 : Fin 1)) = ix1 (atom s p) := eq_ix1 _
  have hidx : val_main_v42 (F := Ideal) x1 (ix2 (atom s p) (0 : Fin 1)) = BitVec.ofNat 32 s.val := by
    rw [val_main_v42_apply, e, val_main_v41_apply, val_main_v38_apply, val_main_v37_apply, val_main_c_8_apply, segment x1 h1, atom_div]
    exact wrap_small (by have := s.isLt; omega) _
  unfold val_main_v43
  exact (gather_take1 (N := 1000) (n := 100000) gather_S1000_S100000x1_S100000_n_0_n_n_0_1_1 rfl rfl rfl rfl _ _ (atom s p) s hidx
    (by decide)).trans (totals x0 x1 x4 x5 h1 s)

/-- An atom's contribution to feature `h` of its structure's readout. -/
theorem contribution (s : Fin 1000) (p : Fin 100) (h : Fin 16) :
    val_main_v47 (F := Ideal) x0 x1 x2 x3 x4 x5 (ix2 (atom s p) h)
      = Ideal.div (weight x0 x4 x5 (atom s p)) (total x0 x4 x5 s) * feature x0 x2 x3 (atom s p) h := by
  have e : idx_main_v45 (idx_main_v46 (ix2 (atom s p) h)) = ix1 (atom s p) := eq_ix1 _
  rw [val_main_v47_apply, features, val_main_v46_apply, val_main_v45_apply, e, val_main_v44_apply, weights,
    total_of_atom x0 x1 x4 x5 h1]
  rfl

/-- The reference's result, where every total is positive. -/
theorem result (hW : ∀ s, 0 < total x0 x4 x5 s) (s : Fin 1000) (h : Fin 16) :
    val_main_v50 (F := Ideal) x0 x1 x2 x3 x4 x5 (ix2 s h) = readout x0 x2 x3 x4 x5 s h := by
  unfold val_main_v50
  refine (Cert.Scatter.add_rows (N := 1000) (M := 100000) (C := 16) scatter_S1000x16_S100000x1_S100000x16_1_0_0_1 rfl rfl rfl rfl
    _ _ _ s h).trans ?_
  rw [val_main_v48_apply, val_main_cst_10_apply, Ideal.ofBits_def, Ideal.ofBits_zero_f32, zero_add]
  have hs : ∀ r : Fin 100000, (val_main_v49 (F := Ideal) x1 (ix2 r (0 : Fin 1))).toInt = (s.val : Int) ↔ r.val / 100 = s.val :=
    fun r => segment_iff x1 h1 r s
  simp only [hs]
  refine (sum_block 100000 rfl (fun r => val_main_v47 (F := Ideal) x0 x1 x2 x3 x4 x5 (ix2 r h)) s (atom s) fun _ => rfl).trans ?_
  simp only [contribution x0 x1 x2 x3 x4 x5 h1]
  exact fractions_eq_quotient _ _ _ (hW s) (sum_ne_top _ _ fun p _ => logistic_ne_top _)

end Cert.Reference
-- ==== Proof.Weights.lean ====
/- What the precondition gives: every structure has a hundred atoms, and its weights' total is positive. -/
module

public import proofs.«01_k».proof.Proof.Reference
public import proofs.«01_k».proof.Proof.Gen.Pre_weighed_segments

@[expose] public section

set_option maxRecDepth 16384

noncomputable section

namespace Cert.Weights

open Cert.ReferenceIdeal Cert.ReferenceIdeal.Read Cert.Readout
open Idealize.ShloMosaic.ValueIdx
open Idealize.ShloMosaic hiding ix1 ix2 eq_ix1 eq_ix2
open scoped BigOperators

variable (x0 : Arr S100000x128) (x1 : (⟨S1000, .i32⟩ : BufTy).Contents (Elt Ideal)) (x2 : Arr S128x16) (x3 : Arr S16)
  (x4 : Arr S128x1) (x5 : Arr S1)

/-- The precondition at structure `s`, taken apart: the count's comparison and the total's. -/
theorem fn_apply (i : S1000.Idx) :
    Cert.Pre_weighed_segments.fn (F := Ideal) x0 x1 x2 x3 x4 x5 i
      = IntOp.cmpi .eq (x1 i) 100#32
        &&& Ideal.cmp .ogt (Ideal.hostReduceAdd Cert.Pre_weighed_segments.Gen.reducesTo_S1000x100_S1000_d1
            (shapeCast Cert.Pre_weighed_segments.S1000x100 (val_main_v32 (F := Ideal) x0 x4 x5)
              Cert.Pre_weighed_segments.Gen.shapeCasts_S100000x1_S1000x100) (Ideal.ofBits .f32 0x00000000#32) i)
          (Ideal.ofBits .f32 0x00000000#32) := rfl

/-- The total the precondition compares is the structure's total weight. -/
theorem compared (s : Fin 1000) :
    Ideal.hostReduceAdd Cert.Pre_weighed_segments.Gen.reducesTo_S1000x100_S1000_d1
        (shapeCast Cert.Pre_weighed_segments.S1000x100 (val_main_v32 (F := Ideal) x0 x4 x5)
          Cert.Pre_weighed_segments.Gen.shapeCasts_S100000x1_S1000x100) (Ideal.ofBits .f32 0x00000000#32) (ix1 s)
      = total x0 x4 x5 s := by
  have hr : Cert.Pre_weighed_segments.S1000x100.Reduces [1] Cert.Pre_weighed_segments.S1000 := by decide
  rw [Ideal.hostReduceAdd_single _ hr, Ideal.ofBits_zero_f32, zero_add]
  refine Finset.sum_congr rfl fun (p : Fin 100) _ => ?_
  have e : hr.lift (ix1 s) p = ix2 s p := funext fun a => match a with
    | ⟨0, _⟩ => rfl
    | ⟨1, _⟩ => rfl
  rw [e]
  refine (shapeCast_apply _ _ (ix2 s p) (ix2 (atom s p) (0 : Fin 1)) ?_).trans (Cert.Reference.weights_col x0 x4 x5 (atom s p))
  rw [Shape.rowMajor_val_two, Shape.rowMajor_val_two]
  show (100 * s.val + p.val) * 1 + 0 = s.val * 100 + p.val
  omega

/-- Where the precondition holds, every count is a hundred and every total is positive. -/
theorem of_pre (h : ∀ i, Cert.Pre_weighed_segments.fn (F := Ideal) x0 x1 x2 x3 x4 x5 i = 1#1) :
    (∀ i, x1 i = 100#32) ∧ ∀ s, 0 < total x0 x4 x5 s := by
  have both : ∀ i, IntOp.cmpi .eq (x1 i) 100#32 = 1#1 ∧ _ := fun i => IntOp.andi_eq_one.1 ((fn_apply x0 x1 x2 x3 x4 x5 i).symm.trans (h i))
  refine ⟨fun i => (StableHlo.Predicate.cmpi_eq_iff ..).1 (both i).1, fun s => ?_⟩
  have hc := (both (ix1 s)).2
  rw [compared, Ideal.ofBits_zero_f32] at hc
  exact of_decide_eq_true ((StableHlo.Predicate.ofBool_eq_one_iff _).1 hc)

end Cert.Weights
-- ==== Proof.lean ====
module

public import proofs.«01_k».proof.Defs
public import proofs.«01_k».proof.Proof.Gen.Kernel.Frame
public import proofs.«01_k».proof.Proof.Gen.KernelIdeal.Frame
public import proofs.«01_k».proof.Proof.Gen.Pre_weighed_segments
public import proofs.«01_k».proof.Proof.Gen.ReferenceIdeal.Run
public import proofs.«01_k».proof.Proof.Gen.ReferenceIdeal.Read
public import proofs.«01_k».proof.Proof.KernelRun
public import proofs.«01_k».proof.Proof.Reference
public import proofs.«01_k».proof.Proof.Weights
public import Idealize.ShloMosaic.Adequacy
public import Idealize.ShloMosaic.Init
public import Idealize.ShloMosaic.Lib.Quiescent

@[expose] public section

noncomputable section

namespace Cert.Proof

open Idealize.ShloMosaic Idealize.SL.Sem

/-! ## The frames -/

/-- The kernel runs, leaves its arguments unchanged and every counter at zero. -/
theorem frame_kernel : Cert.quiescent_Kernel := fun m ρ _ => Cert.Kernel.Gen.frame m ρ

/-- So does its idealization, -/
theorem frame_kernelIdeal : Cert.quiescent_KernelIdeal := fun m ρ _ => Cert.KernelIdeal.Gen.frame m ρ

/-- in particular under the precondition. -/
theorem frame_kernelIdeal_pre : Cert.quiescent_KernelIdeal_pre_weighed_segments := fun m ρ _ => Cert.KernelIdeal.Gen.frame m ρ

/-- So does the reference, which declares no semaphore, -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- in particular under the precondition. -/
theorem frame_reference_pre : Cert.quiescent_ReferenceIdeal_pre_weighed_segments := fun m ρ _ => frame_reference m ρ trivial

/-! ## The values -/

/-- The idealization is the kernel's own text. -/
theorem preserves : Cert.preserves_Kernel_KernelIdeal := trivial

/-- On equal arguments that satisfy the precondition, the reference's result is the array of the kernel's readouts. -/
theorem reference_rows (m : (ℓ : Loc Cert.KernelIdeal.nD Cert.KernelIdeal.τ Cert.KernelIdeal.sig) → Buf (Elt Ideal) ℓ)
    (hpre : Cert.Pre_KernelIdeal_weighed_segments m) (c : Dev Cert.KernelIdeal.nD) :
    Cert.ReferenceIdeal.Read.val_main_v50 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      = Cert.KernelRun.rows m c := by
  obtain ⟨h1, hW⟩ := Cert.Weights.of_pre _ _ _ _ _ _ fun i => congrFun (hpre c) i
  funext i
  obtain ⟨s, h, rfl⟩ : ∃ (s : Fin 1000) (h : Fin 16), i = ValueIdx.ix2 s h := ⟨_, _, ValueIdx.eq_ix2 i⟩
  exact Cert.Reference.result _ _ _ _ _ _ h1 hW s h

/-- The kernel's idealization and the reference compute one function of the arguments under the precondition. -/
theorem algebraic : Cert.algebraic_KernelIdeal_ReferenceIdeal_pre_weighed_segments := by
  intro m ρ m' ρ' hpre harg
  refine ⟨Cert.KernelRun.rows m, Cert.KernelRun.run m ρ, ?_⟩
  refine (θ_run Cert.ReferenceIdeal.defs _ _).mono (fun r h c => ⟨?_, (h c).2⟩) (Cert.ReferenceIdeal.Value.run (F := Ideal) m' ρ')
  refine ((h c).1.trans (Cert.ReferenceIdeal.Read.val_main_v50_eq (StableHlo.launchContents m' c))).trans ?_
  obtain ⟨a0, a1, a2, a3, a4, a5⟩ := harg c
  show Cert.ReferenceIdeal.Read.val_main_v50 (F := Ideal) (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5)) = Cert.KernelRun.rows m c
  rw [a0, a1, a2, a3, a4, a5]
  exact reference_rows m hpre c

/-- Everything the certificate claims. -/
theorem claim : Cert.Claim :=
  ⟨Cert.Kernel.Gen.facts, Cert.KernelIdeal.Gen.facts, Cert.ReferenceIdeal.Gen.facts, Cert.Pre_weighed_segments.Gen.facts,
    frame_kernel, frame_kernelIdeal, frame_kernelIdeal_pre, frame_reference, frame_reference_pre, preserves, algebraic⟩

end Cert.Proof

end
